-- ==== Defs.lean ====
def Pre_Kernel [hPre_pi_swaps_Kernel : Cert.Pre_pi_swaps_Kernel.Facts] (m : (ℓ : Loc Cert.Kernel.nD Cert.Kernel.τ Cert.Kernel.sig) → Buf (Elt Bits) ℓ) : Prop :=
  ∀ c : Dev Cert.Kernel.nD,
    (Cert.Pre_pi_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_stays_Kernel [hPre_pi_stays_Kernel : Cert.Pre_pi_stays_Kernel.Facts] (m : (ℓ : Loc Cert.Kernel.nD Cert.Kernel.τ Cert.Kernel.sig) → Buf (Elt Bits) ℓ) : Prop :=
  ∀ c : Dev Cert.Kernel.nD,
    (Cert.Pre_pi_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_swaps_Kernel : Cert.Pre_pi_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_stays_Kernel [hPre_pi_stays_Kernel : Cert.Pre_pi_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_swaps_ReferenceIdeal [hPre_pi_swaps_ReferenceIdeal : Cert.Pre_pi_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_stays_ReferenceIdeal [hPre_pi_stays_ReferenceIdeal : Cert.Pre_pi_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_swaps_Kernel : Cert.Pre_pi_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_stays_Kernel [hKernel : Cert.Kernel.Facts] [hPre_pi_stays_Kernel : Cert.Pre_pi_stays_Kernel.Facts] : Prop :=
  ∀ (m : (ℓ : Loc Cert.Kernel.nD Cert.Kernel.τ Cert.Kernel.sig) → Buf (Elt Bits) ℓ) (g : Dev Cert.Kernel.nD → PrngReg), Pre_Kernel_pi_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_stays_Kernel [hKernelIdeal : Cert.KernelIdeal.Facts] [hPre_pi_stays_Kernel : Cert.Pre_pi_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_swaps_ReferenceIdeal [hReferenceIdeal : Cert.ReferenceIdeal.Facts] [hPre_pi_swaps_ReferenceIdeal : Cert.Pre_pi_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_stays_ReferenceIdeal [hReferenceIdeal : Cert.ReferenceIdeal.Facts] [hPre_pi_stays_ReferenceIdeal : Cert.Pre_pi_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_swaps_Kernel : Cert.Pre_pi_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_stays_Kernel [hKernelIdeal : Cert.KernelIdeal.Facts] [hReferenceIdeal : Cert.ReferenceIdeal.Facts] [hPre_pi_stays_Kernel : Cert.Pre_pi_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_stays_Kernel m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 2048, 1024]⟩ ⟨3, ![2, 2048, 1024]⟩ (Layout.meshBlock [2, 2, 4] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_swaps_Kernel : Cert.Pre_pi_swaps_Kernel.Facts) (hPre_pi_stays_Kernel : Cert.Pre_pi_stays_Kernel.Facts) (hPre_pi_swaps_ReferenceIdeal : Cert.Pre_pi_swaps_ReferenceIdeal.Facts) (hPre_pi_stays_ReferenceIdeal : Cert.Pre_pi_stays_ReferenceIdeal.Facts),
    quiescent_Kernel (hKernel := hKernel) (hPre_pi_swaps_Kernel := hPre_pi_swaps_Kernel)
    ∧ quiescent_Kernel_pre_pi_stays_Kernel (hKernel := hKernel) (hPre_pi_stays_Kernel := hPre_pi_stays_Kernel)
    ∧ quiescent_KernelIdeal (hKernelIdeal := hKernelIdeal) (hPre_pi_swaps_Kernel := hPre_pi_swaps_Kernel)
    ∧ quiescent_KernelIdeal_pre_pi_stays_Kernel (hKernelIdeal := hKernelIdeal) (hPre_pi_stays_Kernel := hPre_pi_stays_Kernel)
    ∧ quiescent_ReferenceIdeal (hReferenceIdeal := hReferenceIdeal)
    ∧ quiescent_ReferenceIdeal_pre_pi_swaps_ReferenceIdeal (hReferenceIdeal := hReferenceIdeal) (hPre_pi_swaps_ReferenceIdeal := hPre_pi_swaps_ReferenceIdeal)
    ∧ quiescent_ReferenceIdeal_pre_pi_stays_ReferenceIdeal (hReferenceIdeal := hReferenceIdeal) (hPre_pi_stays_ReferenceIdeal := hPre_pi_stays_ReferenceIdeal)
    ∧ preserves_Kernel_KernelIdeal
    ∧ algebraic_KernelIdeal_ReferenceIdeal (hKernelIdeal := hKernelIdeal) (hReferenceIdeal := hReferenceIdeal) (hPre_pi_swaps_Kernel := hPre_pi_swaps_Kernel)
    ∧ algebraic_KernelIdeal_ReferenceIdeal_pre_pi_stays_Kernel (hKernelIdeal := hKernelIdeal) (hReferenceIdeal := hReferenceIdeal) (hPre_pi_stays_Kernel := hPre_pi_stays_Kernel)
-- ==== Pre_pi_stays_Kernel.lean ====
abbrev S1x2048x1024 : Shape := ⟨3, ![1, 2048, 1024]⟩
abbrev S2 : Shape := ⟨1, ![2]⟩

class Facts : Prop where

variable [Facts]

def fn {F : FTy → Type} [FloatOps F] (main_arg0 : FVec F S1x2048x1024 .bf16) (main_arg1 : IVec S2 32) : IVec S2 1 :=
  let main_v0 : IVec S2 32 := iotaInDim S2 32 0
  let main_v1 : IVec S2 1 := cmpi .eq main_arg1 main_v0
  main_v1
-- ==== Pre_pi_stays_ReferenceIdeal.lean ====
abbrev S2x2048x1024 : Shape := ⟨3, ![2, 2048, 1024]⟩
abbrev S2 : Shape := ⟨1, ![2]⟩

class Facts : Prop where

variable [Facts]

def fn {F : FTy → Type} [FloatOps F] (main_arg0 : FVec F S2x2048x1024 .bf16) (main_arg1 : IVec S2 32) : IVec S2 1 :=
  let main_v0 : IVec S2 32 := iotaInDim S2 32 0
  let main_v1 : IVec S2 1 := cmpi .eq main_arg1 main_v0
  main_v1
-- ==== Pre_pi_swaps_Kernel.lean ====
abbrev S1x2048x1024 : Shape := ⟨3, ![1, 2048, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S1x2048x1024 .bf16) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_pi_swaps_ReferenceIdeal.lean ====
abbrev S2x2048x1024 : Shape := ⟨3, ![2, 2048, 1024]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x2048x1024 .bf16) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Kernel.lean ====
abbrev S1x2048x1024 : Shape := ⟨3, ![1, 2048, 1024]⟩
abbrev S2 : Shape := ⟨1, ![2]⟩
abbrev S8 : Shape := ⟨1, ![8]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩

abbrev nBuf : Space → Nat
  | .hbm => 3
  | .vmem => 2
  | .smem => 1
  | _ => 0

abbrev bufTy : (tb : Table) → Fin (tcTables nBuf tb) → BufTy
  | .hbm, ⟨0, _⟩ => ⟨S1x2048x1024, .bf16⟩
  | .hbm, ⟨1, _⟩ => ⟨S2, .i32⟩
  | .hbm, ⟨2, _⟩ => ⟨S1x2048x1024, .bf16⟩
  | .local _ .vmem, ⟨0, _⟩ => ⟨S1x2048x1024, .bf16⟩
  | .local _ .vmem, ⟨1, _⟩ => ⟨S1x2048x1024, .bf16⟩
  | .local _ .smem, ⟨0, _⟩ => ⟨S2, .i32⟩
  | _, _ => ⟨S1x2048x1024, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : Index := Scalar.indexCast v5
  ![v9.toNat]
def k0_dev1 (d0 : Dev nD) : Nat :=
  let c0_i32_49 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_48 : BitVec 32 := 8#32
  let v45 : BitVec 32 := Scalar.muli v2 c8_i32_48
  let v46 : BitVec 32 := Scalar.addi c0_i32_49 v45
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_2 v5
  let c4_i32_50 : BitVec 32 := 4#32
  let v47 : BitVec 32 := Scalar.muli v11 c4_i32_50
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v49 : BitVec 32 := Scalar.muli v8 c1_i32_51
  let v50 : BitVec 32 := Scalar.addi v48 v49
  v50.toNat
def k0_dev2 (d0 : Dev nD) (v10 : BitVec 32) : Nat :=
  let c0_i32_85 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_84 : BitVec 32 := 8#32
  let v66 : BitVec 32 := Scalar.muli v2 c8_i32_84
  let v67 : BitVec 32 := Scalar.addi c0_i32_85 v66
  let c4_i32_86 : BitVec 32 := 4#32
  let v68 : BitVec 32 := Scalar.muli v10 c4_i32_86
  let v69 : BitVec 32 := Scalar.addi v67 v68
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v70 : BitVec 32 := Scalar.muli v8 c1_i32_87
  let v71 : BitVec 32 := Scalar.addi v69 v70
  v71.toNat
def k0_cond2 (d0 : Dev nD) (v10 : BitVec 32) : BitVec 1 :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v54 : BitVec 1 := Scalar.cmpi .ne v10 v5
  let v55 : BitVec 32 := Scalar.extui v54
  let c0_i32_70 : BitVec 32 := 0#32
  let v56 : BitVec 1 := Scalar.cmpi .ne v55 c0_i32_70
  v56

def k0_dev3 (d0 : Dev nD) (v10 : BitVec 32) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v87 : BitVec 32 := Scalar.muli v2 c8_i32_107
  let v88 : BitVec 32 := Scalar.addi c0_i32_108 v87
  let c4_i32_109 : BitVec 32 := 4#32
  let v89 : BitVec 32 := Scalar.muli v10 c4_i32_109
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v91 : BitVec 32 := Scalar.muli v8 c1_i32_110
  let v92 : BitVec 32 := Scalar.addi v90 v91
  v92.toNat
def k0_dev4 (d0 : Dev nD) (v10 : BitVec 32) : Nat :=
  let c0_i32_131 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_130 : BitVec 32 := 8#32
  let v108 : BitVec 32 := Scalar.muli v2 c8_i32_130
  let v109 : BitVec 32 := Scalar.addi c0_i32_131 v108
  let c4_i32_132 : BitVec 32 := 4#32
  let v110 : BitVec 32 := Scalar.muli v10 c4_i32_132
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v112 : BitVec 32 := Scalar.muli v8 c1_i32_133
  let v113 : BitVec 32 := Scalar.addi v111 v112
  v113.toNat
def k0_dev5 (d0 : Dev nD) (v10 : BitVec 32) : Nat :=
  let c0_i32_154 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_153 : BitVec 32 := 8#32
  let v129 : BitVec 32 := Scalar.muli v2 c8_i32_153
  let v130 : BitVec 32 := Scalar.addi c0_i32_154 v129
  let c4_i32_155 : BitVec 32 := 4#32
  let v131 : BitVec 32 := Scalar.muli v10 c4_i32_155
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v133 : BitVec 32 := Scalar.muli v8 c1_i32_156
  let v134 : BitVec 32 := Scalar.addi v132 v133
  v134.toNat
def k0_dev6 (d0 : Dev nD) (v10 : BitVec 32) : Nat :=
  let c0_i32_177 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_176 : BitVec 32 := 8#32
  let v150 : BitVec 32 := Scalar.muli v2 c8_i32_176
  let v151 : BitVec 32 := Scalar.addi c0_i32_177 v150
  let c4_i32_178 : BitVec 32 := 4#32
  let v152 : BitVec 32 := Scalar.muli v10 c4_i32_178
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_179 : BitVec 32 := 1#32
  let v154 : BitVec 32 := Scalar.muli v8 c1_i32_179
  let v155 : BitVec 32 := Scalar.addi v153 v154
  v155.toNat
def k0_dev7 (d0 : Dev nD) (v10 : BitVec 32) : Nat :=
  let c0_i32_200 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_199 : BitVec 32 := 8#32
  let v171 : BitVec 32 := Scalar.muli v2 c8_i32_199
  let v172 : BitVec 32 := Scalar.addi c0_i32_200 v171
  let c4_i32_201 : BitVec 32 := 4#32
  let v173 : BitVec 32 := Scalar.muli v10 c4_i32_201
  let v174 : BitVec 32 := Scalar.addi v172 v173
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_202 : BitVec 32 := 1#32
  let v175 : BitVec 32 := Scalar.muli v8 c1_i32_202
  let v176 : BitVec 32 := Scalar.addi v174 v175
  v176.toNat
def k0_dev8 (d0 : Dev nD) (v10 : BitVec 32) : Nat :=
  let c0_i32_223 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_222 : BitVec 32 := 8#32
  let v192 : BitVec 32 := Scalar.muli v2 c8_i32_222
  let v193 : BitVec 32 := Scalar.addi c0_i32_223 v192
  let c4_i32_224 : BitVec 32 := 4#32
  let v194 : BitVec 32 := Scalar.muli v10 c4_i32_224
  let v195 : BitVec 32 := Scalar.addi v193 v194
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_225 : BitVec 32 := 1#32
  let v196 : BitVec 32 := Scalar.muli v8 c1_i32_225
  let v197 : BitVec 32 := Scalar.addi v195 v196
  v197.toNat
def k0_dev9 (d0 : Dev nD) (v10 : BitVec 32) : Nat :=
  let c0_i32_246 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_245 : BitVec 32 := 8#32
  let v213 : BitVec 32 := Scalar.muli v2 c8_i32_245
  let v214 : BitVec 32 := Scalar.addi c0_i32_246 v213
  let c4_i32_247 : BitVec 32 := 4#32
  let v215 : BitVec 32 := Scalar.muli v10 c4_i32_247
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v217 : BitVec 32 := Scalar.muli v8 c1_i32_248
  let v218 : BitVec 32 := Scalar.addi v216 v217
  v218.toNat

def k0_chk1 (d0 : Dev nD) (v10 : BitVec 32) : Prop :=
  (∀ (k0_h2 : k0_cond2 d0 v10 = 1#1), (k0_dev2 d0 v10) < nD) ∧
  (∀ (k0_h2 : k0_cond2 d0 v10 = 1#1), (k0_dev3 d0 v10) < nD) ∧
  (∀ (k0_h2 : k0_cond2 d0 v10 = 1#1), (k0_dev4 d0 v10) < nD) ∧
  (∀ (k0_h2 : k0_cond2 d0 v10 = 1#1), (k0_dev5 d0 v10) < nD) ∧
  (∀ (k0_h2 : k0_cond2 d0 v10 = 1#1), (k0_dev6 d0 v10) < nD) ∧
  (∀ (k0_h2 : k0_cond2 d0 v10 = 1#1), (k0_dev7 d0 v10) < nD) ∧
  (∀ (k0_h2 : k0_cond2 d0 v10 = 1#1), (k0_dev8 d0 v10) < nD) ∧
  (∀ (k0_h2 : k0_cond2 d0 v10 = 1#1), (k0_dev9 d0 v10) < nD)
theorem k0_dev2_lt : ∀ (d0 : Dev nD) (v10 : BitVec 32) (k0_hw1 : k0_chk1 d0 v10), ∀ (k0_h2 : k0_cond2 d0 v10 = 1#1), (k0_dev2 d0 v10) < nD := fun d0 v10 k0_hw1 k0_h2 => k0_hw1.1 k0_h2
theorem k0_dev3_lt : ∀ (d0 : Dev nD) (v10 : BitVec 32) (k0_hw1 : k0_chk1 d0 v10), ∀ (k0_h2 : k0_cond2 d0 v10 = 1#1), (k0_dev3 d0 v10) < nD := fun d0 v10 k0_hw1 k0_h2 => k0_hw1.2.1 k0_h2
theorem k0_dev4_lt : ∀ (d0 : Dev nD) (v10 : BitVec 32) (k0_hw1 : k0_chk1 d0 v10), ∀ (k0_h2 : k0_cond2 d0 v10 = 1#1), (k0_dev4 d0 v10) < nD := fun d0 v10 k0_hw1 k0_h2 => k0_hw1.2.2.1 k0_h2
theorem k0_dev5_lt : ∀ (d0 : Dev nD) (v10 : BitVec 32) (k0_hw1 : k0_chk1 d0 v10), ∀ (k0_h2 : k0_cond2 d0 v10 = 1#1), (k0_dev5 d0 v10) < nD := fun d0 v10 k0_hw1 k0_h2 => k0_hw1.2.2.2.1 k0_h2
theorem k0_dev6_lt : ∀ (d0 : Dev nD) (v10 : BitVec 32) (k0_hw1 : k0_chk1 d0 v10), ∀ (k0_h2 : k0_cond2 d0 v10 = 1#1), (k0_dev6 d0 v10) < nD := fun d0 v10 k0_hw1 k0_h2 => k0_hw1.2.2.2.2.1 k0_h2
theorem k0_dev7_lt : ∀ (d0 : Dev nD) (v10 : BitVec 32) (k0_hw1 : k0_chk1 d0 v10), ∀ (k0_h2 : k0_cond2 d0 v10 = 1#1), (k0_dev7 d0 v10) < nD := fun d0 v10 k0_hw1 k0_h2 => k0_hw1.2.2.2.2.2.1 k0_h2
theorem k0_dev8_lt : ∀ (d0 : Dev nD) (v10 : BitVec 32) (k0_hw1 : k0_chk1 d0 v10), ∀ (k0_h2 : k0_cond2 d0 v10 = 1#1), (k0_dev8 d0 v10) < nD := fun d0 v10 k0_hw1 k0_h2 => k0_hw1.2.2.2.2.2.2.1 k0_h2
theorem k0_dev9_lt : ∀ (d0 : Dev nD) (v10 : BitVec 32) (k0_hw1 : k0_chk1 d0 v10), ∀ (k0_h2 : k0_cond2 d0 v10 = 1#1), (k0_dev9 d0 v10) < nD := fun d0 v10 k0_hw1 k0_h2 => k0_hw1.2.2.2.2.2.2.2 k0_h2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x1024 : Shape := ⟨3, ![2, 2048, 1024]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x2048x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Chunks.lean ====
/-
# The kernel's buffers, cut into the eight row chunks it copies

Every device holds four whole buffers of shape `1 × 2048 × 1024`: its block of `x`, the result, and two scratch
buffers. The kernel moves each of them in eight chunks of 256 rows. Here are the chunks as memrefs, that they are
disjoint and cover the buffer, and what a write through one chunk of one buffer of a read through the same chunk of
another leaves there.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The four buffers -/

/-- The device's block of `x`. -/
abbrev xM : Memref sig .tc .hbm S1x2048x1024 .bf16 := Memref.whole main_arg0
/-- The result. -/
abbrev oM : Memref sig .tc .hbm S1x2048x1024 .bf16 := Memref.whole main_v1
/-- The scratch buffer `x` is copied into. -/
abbrev aM : Memref sig .tc .vmem S1x2048x1024 .bf16 := Memref.whole cc0_scratch0
/-- The scratch buffer the transfers leave from. -/
abbrev sM : Memref sig .tc .vmem S1x2048x1024 .bf16 := Memref.whole cc0_scratch1

/-- The contents of any of them. -/
abbrev Blk (F : FTy → Type) : Type := S1x2048x1024.Idx → Elt F .bf16

/-! ## Chunks -/

theorem inbC (k : Fin 8) : ∀ a, (![0, 256 * k.val, 0] : Fin 3 → ℕ) a + S1x256x1024.size a ≤ S1x2048x1024.size a := by
  revert k; decide

/-- Rows `256 k .. 256 k + 255`. -/
abbrev rect (k : Fin 8) : Rect S1x2048x1024 := Rect.unit (s := S1x2048x1024) ![0, 256 * k.val, 0] S1x256x1024.size (inbC k)

/-- Chunk `k` of a memref of the buffers' shape. -/
abbrev ck {sp : Space} (M : Memref sig .tc sp S1x2048x1024 .bf16) (k : Fin 8) : Memref sig .tc sp S1x256x1024 .bf16 :=
  M.slice (rect k) (fun _ => rfl)

/-- An index lies in chunk `k` when its row does. -/
theorem mem_rect (k : Fin 8) (i : S1x2048x1024.Idx) :
    i ∈ (rect k).set ↔ 256 * k.val ≤ (i 1).val ∧ (i 1).val < 256 * k.val + 256 := by
  rw [Rect.mem_set_unit]
  constructor
  · intro h; exact h 1
  · intro h a
    fin_cases a
    · exact ⟨Nat.zero_le _, (i 0).isLt⟩
    · exact h
    · exact ⟨Nat.zero_le _, (i 2).isLt⟩

theorem rect_disjoint {k l : Fin 8} (h : k ≠ l) : Disjoint (rect k).set (rect l).set := by
  rw [Finset.disjoint_left]
  intro i hk hl
  rw [mem_rect] at hk hl
  exact h (Fin.ext (by omega))

theorem rect_cover : (Finset.univ : Finset (Fin 8)).biUnion (fun k => (rect k).set) = Finset.univ := by
  ext i
  simp only [Finset.mem_biUnion, Finset.mem_univ, true_and, iff_true]
  have hi : (i 1).val < 2048 := (i 1).isLt
  refine ⟨⟨(i 1).val / 256, by omega⟩, ?_⟩
  rw [mem_rect]
  dsimp only
  omega

/-! ## Chunk reads and writes

The buffers' contents are all functions of the same index, and a chunk of any of them reads and writes at the same
places of it. -/

theorem set_x (k : Fin 8) : (ck xM k).view.set = (rect k).set := View.set_slice_whole _ _
theorem set_o (k : Fin 8) : (ck oM k).view.set = (rect k).set := View.set_slice_whole _ _
theorem set_a (k : Fin 8) : (ck aM k).view.set = (rect k).set := View.set_slice_whole _ _
theorem set_s (k : Fin 8) : (ck sM k).view.set = (rect k).set := View.set_slice_whole _ _

/-- Writing into chunk `k` of one buffer what chunk `k` of another reads leaves there, on the chunk, the other's contents. -/
theorem write_read_a_x (k : Fin 8) (f g : Blk F) : ∀ i ∈ (ck aM k).view.set,
    (ck aM k).view.write (Elt F) f ((ck xM k).view.read (Elt F) g) Finset.univ i = g i := by
  intro i hi
  obtain ⟨j, -, rfl⟩ := Finset.mem_map.mp hi
  rw [View.write_emb_of_mem _ _ (Finset.mem_univ j)]
  rfl
theorem write_read_o_s (k : Fin 8) (f g : Blk F) : ∀ i ∈ (ck oM k).view.set,
    (ck oM k).view.write (Elt F) f ((ck sM k).view.read (Elt F) g) Finset.univ i = g i := by
  intro i hi
  obtain ⟨j, -, rfl⟩ := Finset.mem_map.mp hi
  rw [View.write_emb_of_mem _ _ (Finset.mem_univ j)]
  rfl
theorem write_read_s_a (k : Fin 8) (f g : Blk F) : ∀ i ∈ (ck sM k).view.set,
    (ck sM k).view.write (Elt F) f ((ck aM k).view.read (Elt F) g) Finset.univ i = g i := by
  intro i hi
  obtain ⟨j, -, rfl⟩ := Finset.mem_map.mp hi
  rw [View.write_emb_of_mem _ _ (Finset.mem_univ j)]
  rfl

/-- Every chunk of every buffer has the same credit. -/
def N : ℕ := (ck oM 0).view.dmaCredit
/-- A whole buffer's. -/
def NW : ℕ := oM.view.dmaCredit
theorem N_pos : 0 < N := View.dmaCredit_pos _ (by decide)
theorem NW_pos : 0 < NW := View.dmaCredit_pos _ (by decide)
theorem credit_a (k : Fin 8) : (ck aM k).view.dmaCredit = N := rfl
theorem credit_s (k : Fin 8) : (ck sM k).view.dmaCredit = N := rfl
theorem credit_o (k : Fin 8) : (ck oM k).view.dmaCredit = N := rfl
theorem credit_W : oM.view.dmaCredit = NW := rfl

attribute [irreducible] N NW

end Swap

end
-- ==== Proof.Program.lean ====
/-
# The kernel's body as loops over the chunks

The printed body writes each of its three passes over the eight chunks out in full. Here each pass is a program
recursive in the list of chunks still to do, and the printed body is shown to be those passes in sequence, so that
one proof about a chunk serves all eight.
-/
module

public import proofs.«01_k».proof.Proof.Chunks

@[expose] public section

noncomputable section

namespace Swap

open Cert.KernelIdeal Cert.KernelIdeal.Gen

open Idealize.ShloMosaic
open Idealize.ShloMosaic.TcCoe
open Idealize.SL.Sem

variable {F : FTy → Type} [FloatOps F]

/-! ## Semaphores -/

theorem inbS (k : Fin 8) : ∀ a, (![k.val] : Fin 1 → ℕ) a + S1.size a ≤ S8.size a := by revert k; decide

/-- Semaphore `k` of an array of eight. -/
abbrev semAt (A : DmaSems sig S8) (k : Fin 8) : DmaSem sig :=
  ((A.slice (Rect.unit (s := S8) ![k.val] S1.size (inbS k))).squeeze S_ squeezes_S1_S_).sem

/-- The semaphore of the copy of chunk `k` of `x` into scratch. -/
abbrev locS (k : Fin 8) : DmaSem sig := semAt cc0_scratch2 k
/-- The semaphore chunk `k`'s transfer signals on the sender. -/
abbrev sndS (k : Fin 8) : DmaSem sig := semAt cc0_scratch3 k
/-- The semaphore chunk `k`'s transfer signals on the receiver. -/
abbrev rcvS (k : Fin 8) : DmaSem sig := semAt cc0_scratch4 k
/-- The barrier semaphore. -/
abbrev barS : Sem sig := (SemArray.scalar (sig.barrier 0 rfl) : Sems sig S_).sem

/-! ## Side conditions of the chunk transfers -/

theorem words (k : Fin 8) : (rect k).WholeWords (EltTy.packing .bf16) := by revert k; decide
theorem packed (k : Fin 8) : (rect k).PackedRows (EltTy.packing .bf16) := by revert k; decide

theorem wx (k : Fin 8) : (ck xM k).view.WordExact := (Memref.isWhole_whole main_arg0).wordExact_slice rfl _ (words k)
theorem wo (k : Fin 8) : (ck oM k).view.WordExact := (Memref.isWhole_whole main_v1).wordExact_slice rfl _ (words k)
theorem wa (k : Fin 8) : (ck aM k).view.WordExact := (Memref.isWhole_whole cc0_scratch0).wordExact_slice rfl _ (words k)
theorem ws (k : Fin 8) : (ck sM k).view.WordExact := (Memref.isWhole_whole cc0_scratch1).wordExact_slice rfl _ (words k)
theorem st (k : Fin 8) : (sM.access (rect k)).Stores Finset.univ :=
  View.stores_vmem h_S1x256x1024 ((Memref.isWhole_whole cc0_scratch1).storeExact_slice rfl _ (packed k)) (fun _ => rfl)

/-- The whole buffer as a rectangle of itself. -/
abbrev rectW : Rect S1x2048x1024 := Rect.unit (s := S1x2048x1024) ![0, 0, 0] S1x2048x1024.size inb_S1x2048x1024_S1x2048x1024_0_0_0

/-! ## The passes -/

/-- Programs of a device's core, at the kernel's labels. -/
abbrev P (F : FTy → Type) (α : Type) : Type 1 := Prog (TpuEff nD τ sig (Elt F) Λ₀ .tc) α

/-- Start the copies of the chunks `ks` of `x` into scratch, then `r`. -/
def copies : List (Fin 8) → P F PUnit → P F PUnit
  | [], r => r
  | k :: ks, r => .op (.enqueueDma (ck xM k) (.here (ck aM k)) (.dma (locS k)) (wx k) (wa k) ⟨Or.inl rfl, trivial⟩) fun _ => copies ks r

/-- Wait for the copies of the chunks `ks`, then `r`. -/
def arrivals : List (Fin 8) → P F PUnit → P F PUnit
  | [], r => r
  | k :: ks, r => .op (.waitDma2 (locS k) (ck xM k) (ck aM k) (wx k) (wa k)) fun _ => arrivals ks r

/-- What the kernel stores of a chunk it loaded. -/
def pay (v : Vec F S1x256x1024 .bf16) : FVec F S1x256x1024 .bf16 :=
  shapeCast S1x256x1024 (shapeCast S256x1024 v shapeCasts_S1x256x1024_S256x1024) shapeCasts_S256x1024_S1x256x1024

/-- For each of the chunks `ks`: wait for its copy, move it into the buffer the transfers leave from, and start its
    transfer to the device `tgt` names; then `r`. -/
def sends (tgt : Fin 8 → Dev nD) : List (Fin 8) → P F PUnit → P F PUnit
  | [], r => r
  | k :: ks, r =>
    .op (.waitDma2 (locS k) (ck xM k) (ck aM k) (wx k) (wa k)) fun _ =>
    .op (.load aM (rect k).toLoadRect (View.loadsAt_vmem h_S1x256x1024)) fun v =>
    .op (.load sM (rect k).toLoadRect (View.loadsAt_vmem h_S1x256x1024)) fun _ =>
    .op (.store sM (rect k) (pay v) Finset.univ (st k) (.inl rfl)) fun _ =>
    .op (.enqueueDma (ck sM k) (.remote (Dev.tc (tgt k)) (ck oM k) (.dma (sndS k))) (.dma (rcvS k)) (ws k) (wo k)
      ⟨⟨rfl, Or.inl rfl⟩, trivial⟩) fun _ => sends tgt ks r

/-- For each of the chunks `ks`: wait until its transfer has left, and until the peer's has arrived; then `r`. -/
def finishes : List (Fin 8) → P F PUnit → P F PUnit
  | [], r => r
  | k :: ks, r =>
    .op (.waitDma2 (sndS k) (ck oM k) (ck sM k) (wo k) (ws k)) fun _ =>
    .op (.waitDma2 (rcvS k) (ck sM k) (ck oM k) (ws k) (wo k)) fun _ => finishes ks r

/-- All chunks, in the order the kernel takes them. -/
abbrev all : List (Fin 8) := [0, 1, 2, 3, 4, 5, 6, 7]

/-- The devices the eight transfers are addressed to. -/
def targets (d : Dev nD) (w : BitVec 32) (h : k0_chk1 d w) (h2 : k0_cond2 d w = 1#1) : Fin 8 → Dev nD :=
  ![⟨k0_dev2 d w, k0_dev2_lt d w h h2⟩, ⟨k0_dev3 d w, k0_dev3_lt d w h h2⟩, ⟨k0_dev4 d w, k0_dev4_lt d w h h2⟩,
    ⟨k0_dev5 d w, k0_dev5_lt d w h h2⟩, ⟨k0_dev6 d w, k0_dev6_lt d w h h2⟩, ⟨k0_dev7 d w, k0_dev7_lt d w h h2⟩,
    ⟨k0_dev8 d w, k0_dev8_lt d w h h2⟩, ⟨k0_dev9 d w, k0_dev9_lt d w h h2⟩]

/-- The kernel where its block stays on the device: wait for all of `x`, move it to the other scratch buffer and copy
    that to the result; then `r`. -/
def stay (r : P F PUnit) : P F PUnit :=
  arrivals all <|
  .op (.load aM rectW.toLoadRect (View.loadsAt_vmem h_S1x2048x1024)) fun v =>
  .op (.load sM rectW.toLoadRect (View.loadsAt_vmem h_S1x2048x1024)) fun _ =>
  .op (.store sM rectW (k0_pay1 v) Finset.univ (View.stores_vmem h_S1x2048x1024
      ((Memref.isWhole_whole cc0_scratch1).storeExact_slice rfl _ packedbf16_S1x2048x1024_S1x2048x1024_0_0_0) (fun _ => rfl)) (.inl rfl)) fun _ =>
  .op (.enqueueDma sM (.here oM) (.dma (sndS 0)) (Memref.isWhole_whole _).wordExact (Memref.isWhole_whole _).wordExact ⟨Or.inl rfl, trivial⟩) fun _ =>
  .op (.waitDma2 (sndS 0) sM oM (Memref.isWhole_whole _).wordExact (Memref.isWhole_whole _).wordExact) fun _ => r

/-- The kernel where its block moves. -/
def swap (tgt : Fin 8 → Dev nD) : P F PUnit := sends tgt all (finishes all (.ret ⟨⟩))

/-- The word the kernel branches on first: whether the table's entry is the device's own position. -/
def cond1 (d : Dev nD) (w : BitVec 32) : BitVec 1 :=
  Scalar.cmpi .ne (Scalar.extui (Scalar.cmpi .eq w (Scalar.remsi (Scalar.divsi (Dev.word d) 4#32) 2#32)) : BitVec 32) 0#32

/-- The second branch: the transfers, where the kernel's second condition holds. -/
def moves (d : Dev nD) (w : BitVec 32) (h : k0_chk1 d w) : P F PUnit :=
  if h2 : k0_cond2 d w = 1#1 then swap (targets d w h h2) else .ret ⟨⟩

/-- The body once device `d` has read the word `w` of the table. -/
def main (d : Dev nD) (w : BitVec 32) : P F PUnit :=
  .op (.assume (k0_chk1 d w) (k0_chk1.dec d w)) fun h =>
  copies all <|
  .op (.semSignal ((⟨k0_dev1 d, k0_dev1_lt d⟩ : Dev nD) : Thread nD τ) barS (1#32 : BitVec 32).toInt) fun _ =>
  .op (.semWait barS (1#32 : BitVec 32).toInt) fun _ =>
  if cond1 d w = 1#1 then stay (moves d w h.down) else moves d w h.down

/-- The whole body. -/
def prog : P F PUnit :=
  .op .deviceId fun d =>
  Prog.bind (smemLoad (Memref.whole cc0_stg0_0) (Rect.unit (s := S2) (k0_off1 d) S1.size (k0_off1_inb d)) numel1_S1 rfl) fun w => main d w

set_option maxRecDepth 65536 in
set_option maxHeartbeats 4000000 in
theorem body_eq : cc0_body (F := F) (Memref.whole cc0_stg0_0) (Memref.isWhole_whole _) (Memref.whole main_arg0) (Memref.isWhole_whole _)
    (Memref.whole main_v1) (Memref.isWhole_whole _) (Memref.whole cc0_scratch0) (Memref.isWhole_whole _)
    (Memref.whole cc0_scratch1) (Memref.isWhole_whole _) cc0_scratch2 cc0_scratch3 cc0_scratch4 = prog := by
  rw [cc0_body_eq_skeleton]
  rfl

end Swap

end
-- ==== Proof.Protocol.lean ====
/-
# The protocol the devices follow

Devices are paired along the mesh's second axis: a device and its peer share the other two coordinates. The same
proof serves both tables the claims consider, so everything here is indexed by a boolean `b`: whether the blocks move
(each device's block to its peer) or stay.

Each device has 25 semaphores in play, indexed by `Ix`: its barrier, and for each chunk the semaphore of the copy into
scratch, the one its transfer signals when it has left, and the one the peer's transfer signals when it has arrived.
Each is used for one round, in which it is raised once. What the waiter receives with it is `pays`:

* barrier, when blocks move: the peer's result buffer, chunk by chunk, into which the device may now write;
* copy of chunk `k`: chunk `k` of `x` and of scratch, the latter holding the former;
* departure of chunk `k`: chunk `k` of the buffer it left from; when blocks stay, the first of these semaphores counts
  instead the copy of the whole buffer to the result, and hands both over;
* arrival of chunk `k`: chunk `k` of the result, holding the peer's.
-/
module

public import proofs.«01_k».proof.Proof.Program

@[expose] public section

noncomputable section

namespace Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## Ghost state -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Pairs of devices -/

theorem peer_lt (c : Dev nD) : 8 * (c.val / 8) + c.val % 4 + 4 - 4 * (c.val / 4 % 2) < nD := by revert c; decide
/-- The device at the other position along the second mesh axis. -/
def peer (c : Dev nD) : Dev nD := ⟨8 * (c.val / 8) + c.val % 4 + 4 - 4 * (c.val / 4 % 2), peer_lt c⟩
theorem peer_peer (c : Dev nD) : peer (peer c) = c := by revert c; decide

/-! ## Semaphores -/

/-- A device's semaphores: `none` its barrier; `some (a, k)` chunk `k`'s copy, departure and arrival for `a = 0, 1, 2`. -/
abbrev Ix : Type := Option (Fin 3 × Fin 8)

/-- The kernel's own semaphores. -/
abbrev osem : Fin 3 × Fin 8 → SemLoc sig
  | (0, k) => .dma (locS k)
  | (1, k) => .dma (sndS k)
  | (2, k) => .dma (rcvS k)
/-- All of them. -/
abbrev csem : Ix → SemLoc sig
  | none => .reg barS
  | some a => osem a

theorem osem_injective : Function.Injective osem := by
  intro i j h
  revert h; revert i j; decide +kernel

theorem csem_injective : Function.Injective csem := by
  intro i j h
  match i, j with
  | none, none => rfl
  | none, some a => exact absurd h (by revert a; decide +kernel)
  | some a, none => exact absurd h (by revert a; decide +kernel)
  | some a, some a' => exact congrArg some (osem_injective h)

open Classical in
/-- Which of a device's semaphores a semaphore is. -/
def kind (sm : SemLoc sig) : Option Ix := if h : ∃ i, csem i = sm then some h.choose else none

theorem kind_csem (i : Ix) : kind (csem i) = some i := by
  have h : ∃ j, csem j = csem i := ⟨i, rfl⟩
  unfold kind
  rw [dif_pos h]
  exact congrArg some (csem_injective h.choose_spec)

theorem kind_none {sm : SemLoc sig} (h : ∀ i, csem i ≠ sm) : kind sm = none := by
  unfold kind
  exact dif_neg fun ⟨i, hi⟩ => h i hi

/-- Device `c`'s semaphore `i`. -/
abbrev cell (c : Dev nD) (i : Ix) : GSem nD τ sig := ((c : Thread nD τ), csem i)

theorem cell_injective : Function.Injective fun ci : Dev nD × Ix => cell ci.1 ci.2 := by
  rintro ⟨c, i⟩ ⟨c', i'⟩ h
  have h1 : c = c' := congrArg (fun g : GSem nD τ sig => g.1.1) h
  have h2 : csem i = csem i' := congrArg (fun g : GSem nD τ sig => g.2) h
  rw [h1, csem_injective h2]

/-! ## Pieces of the buffers -/

/-- Chunk `k` of device `c`'s `x`, result, first and second scratch buffer, holding its part of `f`. -/
def xP (c : Dev nD) (k : Fin 8) (f : Blk F) : sProp 𝕄 := (ck xM k).view.loc (c : Thread nD τ) ↦[(ck xM k).view.set]{fullShare} f
def oP (c : Dev nD) (k : Fin 8) (f : Blk F) : sProp 𝕄 := (ck oM k).view.loc (c : Thread nD τ) ↦[(ck oM k).view.set]{fullShare} f
def aP (c : Dev nD) (k : Fin 8) (f : Blk F) : sProp 𝕄 := (ck aM k).view.loc (c : Thread nD τ) ↦[(ck aM k).view.set]{fullShare} f
def sP (c : Dev nD) (k : Fin 8) (f : Blk F) : sProp 𝕄 := (ck sM k).view.loc (c : Thread nD τ) ↦[(ck sM k).view.set]{fullShare} f

/-- The whole buffers. -/
def xW (c : Dev nD) (f : Blk F) : sProp 𝕄 := (c : Thread nD τ).loc main_arg0 ↦{fullShare} f
def oW (c : Dev nD) (f : Blk F) : sProp 𝕄 := (c : Thread nD τ).loc main_v1 ↦{fullShare} f
def aW (c : Dev nD) (f : Blk F) : sProp 𝕄 := (c : Thread nD τ).loc cc0_scratch0 ↦{fullShare} f
def sW (c : Dev nD) (f : Blk F) : sProp 𝕄 := (c : Thread nD τ).loc cc0_scratch1 ↦{fullShare} f

instance xP_storable (c : Dev nD) (k : Fin 8) (f : Blk F) : BI.Storable (upEmb : UEmb _ 𝕄) (xP c k f) := by unfold xP; infer_instance
instance oP_storable (c : Dev nD) (k : Fin 8) (f : Blk F) : BI.Storable (upEmb : UEmb _ 𝕄) (oP c k f) := by unfold oP; infer_instance
instance aP_storable (c : Dev nD) (k : Fin 8) (f : Blk F) : BI.Storable (upEmb : UEmb _ 𝕄) (aP c k f) := by unfold aP; infer_instance
instance sP_storable (c : Dev nD) (k : Fin 8) (f : Blk F) : BI.Storable (upEmb : UEmb _ 𝕄) (sP c k f) := by unfold sP; infer_instance
instance oW_storable (c : Dev nD) (f : Blk F) : BI.Storable (upEmb : UEmb _ 𝕄) (oW c f) := by unfold oW; infer_instance
instance sW_storable (c : Dev nD) (f : Blk F) : BI.Storable (upEmb : UEmb _ 𝕄) (sW c f) := by unfold sW; infer_instance

theorem univ_all (Φ : Fin 8 → sProp 𝕄) : bigSep Finset.univ Φ = bigSepL all Φ := bigSep_univ_eq_bigSepL all (by decide) (by decide) Φ

/-- A whole buffer is its chunks. -/
theorem xW_eq (c : Dev nD) (f : Blk F) : (xW c f : sProp 𝕄) = bigSepL all fun k => xP c k f := by
  rw [← univ_all]; unfold xW xP; rw [← rect_cover]
  exact (pointsTo_biUnion _ _ fun _ _ _ _ h => rect_disjoint h).trans (congrArg (bigSep _) (funext fun k => by rw [set_x]))
theorem oW_eq (c : Dev nD) (f : Blk F) : (oW c f : sProp 𝕄) = bigSepL all fun k => oP c k f := by
  rw [← univ_all]; unfold oW oP; rw [← rect_cover]
  exact (pointsTo_biUnion _ _ fun _ _ _ _ h => rect_disjoint h).trans (congrArg (bigSep _) (funext fun k => by rw [set_o]))
theorem aW_eq (c : Dev nD) (f : Blk F) : (aW c f : sProp 𝕄) = bigSepL all fun k => aP c k f := by
  rw [← univ_all]; unfold aW aP; rw [← rect_cover]
  exact (pointsTo_biUnion _ _ fun _ _ _ _ h => rect_disjoint h).trans (congrArg (bigSep _) (funext fun k => by rw [set_a]))
theorem sW_eq (c : Dev nD) (f : Blk F) : (sW c f : sProp 𝕄) = bigSepL all fun k => sP c k f := by
  rw [← univ_all]; unfold sW sP; rw [← rect_cover]
  exact (pointsTo_biUnion _ _ fun _ _ _ _ h => rect_disjoint h).trans (congrArg (bigSep _) (funext fun k => by rw [set_s]))

/-! ## The schedule -/

variable (X : Dev nD → Blk F) (b : Bool)

/-- Whether a semaphore is raised at all. -/
def live : Ix → Bool
  | none => true
  | some (0, _) => true
  | some (1, k) => b || k == 0
  | some (2, _) => b

/-- By how much. -/
def amt : Ix → ℕ
  | none => 1
  | some (0, _) => N
  | some (1, _) => if b then N else NW
  | some (2, _) => N

theorem amt_pos (i : Ix) : 0 < amt b i := by
  match i with
  | none => exact Nat.one_pos
  | some (0, _) => exact N_pos
  | some (1, _) =>
    show 0 < if b then N else NW
    split
    · exact N_pos
    · exact NW_pos
  | some (2, _) => exact N_pos

/-- What its waiter on device `c` receives; `X` are the devices' blocks of `x`. -/
def pays (c : Dev nD) : Ix → sProp 𝕄
  | none => if b then bigSepL all fun k => iprop(∃ f, oP (peer c) k f) else iprop(emp)
  | some (0, k) => iprop(aP c k (X c) ∗ xP c k (X c))
  | some (1, k) => if b then sP c k (X c) else iprop(oW c (X c) ∗ sW c (X c))
  | some (2, k) => oP c k (X (peer c))

instance pays_storable (c : Dev nD) (i : Ix) : BI.Storable (upEmb : UEmb _ 𝕄) (pays X b c i) := by
  match i with
  | none =>
    cases b
    · show BI.Storable upEmb iprop(emp); infer_instance
    · show BI.Storable upEmb (bigSepL all fun k => iprop(∃ f, oP (peer c) k f)); rw [← univ_all]; infer_instance
  | some (0, k) => unfold pays; infer_instance
  | some (1, k) =>
    cases b
    · show BI.Storable upEmb iprop(oW c (X c) ∗ sW c (X c)); infer_instance
    · show BI.Storable upEmb (sP c k (X c)); infer_instance
  | some (2, k) => unfold pays; infer_instance

/-- One round, in which each live semaphore is raised once. -/
def Rd : Rounds.Schedule (GSem nD τ sig) Unit 𝕄 where
  duties g r := match kind g.2 with
    | some i => if r = 0 ∧ g.1.2 = .tc ∧ live b i = true then {()} else ∅
    | none => ∅
  unitless _ := False
  amount g _ _ := match kind g.2 with
    | some i => amt b i
    | none => 1
  payload g _ _ := match kind g.2 with
    | some i => pays X b g.1.1 i
    | none => iprop(emp)
  amount_pos g _ _ _ := by
    split
    · exact amt_pos b _
    · exact Nat.one_pos

instance Rd_storable (g : GSem nD τ sig) (r : ℕ) (d : Unit) : BI.Storable (upEmb : UEmb _ 𝕄) ((Rd X b).payload g r d) := by
  show BI.Storable upEmb (match kind g.2 with | some i => pays X b g.1.1 i | none => iprop(emp))
  split <;> infer_instance

theorem duties_live (c : Dev nD) (i : Ix) (h : live b i = true) : (Rd X b).duties (cell c i) 0 = {()} := by
  dsimp only [Rd]; rw [kind_csem]; exact if_pos ⟨rfl, rfl, h⟩
theorem duty_mem (c : Dev nD) (i : Ix) (h : live b i = true) : () ∈ (Rd X b).duties (cell c i) 0 := by
  rw [duties_live X b c i h]; exact Finset.mem_singleton_self _
theorem duties_idle (c : Dev nD) (i : Ix) (h : live b i = false) (r : ℕ) : (Rd X b).duties (cell c i) r = ∅ := by
  dsimp only [Rd]; rw [kind_csem]; exact if_neg fun h' => by rw [h'.2.2] at h; cases h
theorem duties_later (g : GSem nD τ sig) (r : ℕ) (h : 1 ≤ r) : (Rd X b).duties g r = ∅ := by
  dsimp only [Rd]
  split
  · exact if_neg fun h' => by omega
  · rfl
theorem amount_cell (c : Dev nD) (i : Ix) (d : Unit) : (Rd X b).amount (cell c i) 0 d = amt b i := by
  dsimp only [Rd]; rw [kind_csem]
theorem payload_cell (c : Dev nD) (i : Ix) (d : Unit) : (Rd X b).payload (cell c i) 0 d = pays X b c i := by
  dsimp only [Rd]; rw [kind_csem]
theorem expect_cell (c : Dev nD) (i : Ix) (h : live b i = true) : (Rd X b).expect (cell c i) 0 = amt b i := by
  unfold Schedule.expect Schedule.amountOf; rw [duties_live X b c i h, Finset.sum_singleton, amount_cell]
theorem rest_cell (c : Dev nD) (i : Ix) (h : live b i = true) :
    bigSep ((Rd X b).duties (cell c i) 0 \ ∅) (fun d => (Rd X b).payload (cell c i) 0 d) = pays X b c i := by
  rw [Finset.sdiff_empty, duties_live X b c i h, bigSep_singleton, payload_cell]

/-! ## What a device owes, and the order of waits -/

/-- The arrivals of the chunks `ks` a device owes its peer; the first is the last summand. -/
def owedTo (c : Dev nD) : List (Fin 8) → CellTallies nD τ sig Unit
  | [] => 0
  | k :: ks => owedTo c ks + tallyAt (cell (peer c) (some (2, k))) () N

/-- What a device owes once it has signalled its peer, and at launch. -/
def O₁ (c : Dev nD) : CellTallies nD τ sig Unit := if b then owedTo c all else 0
def O₀ (c : Dev nD) : CellTallies nD τ sig Unit := O₁ b c + tallyAt (cell (peer c) none) () 1

/-- Barriers come before arrivals, everything else before both. -/
def rank : Option Ix → ℕ
  | some none => 1
  | some (some (2, _)) => 2
  | _ => 0
def L (g : GSem nD τ sig) : Finset Unit := if g.1.2 = .tc then {()} else ∅
def lv (g : GSem nD τ sig) (_ : Unit) : ℕ := rank (kind g.2)

theorem L_tc (c : Dev nD) (sm : SemLoc sig) : L ((c : Thread nD τ), sm) = {()} := if_pos rfl
theorem L_ne (g : GSem nD τ sig) (h : g.1.2 ≠ .tc) : L g = ∅ := if_neg h

theorem owedTo_pos {c : Dev nD} {ks : List (Fin 8)} {g : GSem nD τ sig} {u : Unit} (h : 0 < owedTo c ks g u) :
    ∃ k, g = cell (peer c) (some (2, k)) := by
  induction ks with
  | nil => exact absurd h (Nat.lt_irrefl 0)
  | cons k ks ih =>
    unfold owedTo at h
    rw [Pi.add_apply, Finsupp.add_apply, tallyAt_apply] at h
    by_cases hg : g = cell (peer c) (some (2, k)) ∧ u = ()
    · exact ⟨k, hg.1⟩
    · rw [if_neg hg, Nat.add_zero] at h; exact ih h

theorem O₁_pos {c : Dev nD} {g : GSem nD τ sig} {u : Unit} (h : 0 < O₁ b c g u) : ∃ k, g = cell (peer c) (some (2, k)) := by
  unfold O₁ at h
  split at h
  · exact owedTo_pos h
  · exact absurd h (Nat.lt_irrefl 0)

theorem O₀_pos {c : Dev nD} {g : GSem nD τ sig} {u : Unit} (h : 0 < O₀ b c g u) :
    g = cell (peer c) none ∨ ∃ k, g = cell (peer c) (some (2, k)) := by
  unfold O₀ at h
  rw [Pi.add_apply, Finsupp.add_apply, tallyAt_apply] at h
  by_cases hg : g = cell (peer c) none ∧ u = ()
  · exact .inl hg.1
  · rw [if_neg hg, Nat.add_zero] at h; exact .inr (O₁_pos b h)

theorem lv_cell (c : Dev nD) (i : Ix) (u : Unit) : lv (cell c i) u = rank (some i) := by unfold lv; rw [kind_csem]
theorem lv_bar (c : Dev nD) (u : Unit) : lv (cell c none) u = 1 := lv_cell c none u
theorem lv_arr (c : Dev nD) (k : Fin 8) (u : Unit) : lv (cell c (some (2, k))) u = 2 := lv_cell c (some (2, k)) u

/-- A device may wait on a semaphore ranked below everything it owes. -/
theorem mayWait_of (c : Dev nD) (sm : SemLoc sig) (O : CellTallies nD τ sig Unit) (n : ℕ) (hn : lv ((c : Thread nD τ), sm) () ≤ n)
    (hO : ∀ (g : GSem nD τ sig) (u : Unit), 0 < O g u → (∃ d i, g = cell d i) ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨⟨d, i, rfl⟩, -⟩ := hO g u hg; rw [L_tc]; exact Finset.mem_singleton_self _)
    (fun p hp => by rw [Finset.mem_singleton.mp hp]; exact hn) (fun g u hg => (hO g u hg).2)

theorem owedTo_rank {c : Dev nD} {ks : List (Fin 8)} (g : GSem nD τ sig) (u : Unit) (h : 0 < owedTo c ks g u) :
    (∃ d i, g = cell d i) ∧ 1 < lv g u := by
  obtain ⟨k, rfl⟩ := owedTo_pos h; exact ⟨⟨_, _, rfl⟩, by rw [lv_arr]; decide⟩
theorem O₁_rank {c : Dev nD} (g : GSem nD τ sig) (u : Unit) (h : 0 < O₁ b c g u) : (∃ d i, g = cell d i) ∧ 1 < lv g u := by
  obtain ⟨k, rfl⟩ := O₁_pos b h; exact ⟨⟨_, _, rfl⟩, by rw [lv_arr]; decide⟩
theorem O₀_rank {c : Dev nD} (g : GSem nD τ sig) (u : Unit) (h : 0 < O₀ b c g u) : (∃ d i, g = cell d i) ∧ 0 < lv g u := by
  rcases O₀_pos b h with rfl | ⟨k, rfl⟩
  · exact ⟨⟨_, _, rfl⟩, by rw [lv_bar]; decide⟩
  · exact ⟨⟨_, _, rfl⟩, by rw [lv_arr]; decide⟩

/-- The device that waits on the semaphore `i` that device `c` raises: itself, or its peer for the barrier and arrivals. -/
def payee : Ix → Dev nD → Dev nD
  | none => peer
  | some (2, _) => peer
  | some _ => id

theorem payee_payee (i : Ix) (c : Dev nD) : payee i (payee i c) = c := by
  match i with
  | none => exact peer_peer c
  | some (0, _) => rfl
  | some (1, _) => rfl
  | some (2, _) => exact peer_peer c

end Swap

end
-- ==== Proof.Passes.lean ====
/-
# The kernel's passes, one chunk at a time

Each pass of the kernel is a loop over the chunks (`copies`, `arrivals`, `sends`, `finishes`). Each is proved here by
induction on the chunks still to do: what one chunk needs and what it leaves. All waits go through one lemma
(`wait_close`): the waiter receives what the semaphore pays, and, since a semaphore serves one round only, its
counter back at zero.
-/
module

public import proofs.«01_k».proof.Proof.Protocol
public import Idealize.ShloMosaic.Lib.Pipeline.BigSepL
public import Idealize.ShloMosaic.Lib.Pipeline.Value

@[expose] public section

noncomputable section

namespace Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c`'s core runs `p` to `Q`. -/
abbrev run (c : Dev nD) {α : Type} (p : P F α) (Q : α → sProp 𝕄) : sProp 𝕄 :=
  wp frame (wpE (defs₀ (F := F)) 𝒱₀ (c : Thread nD τ) none) Set.univ p Q

variable (X : Dev nD → Blk F) (b : Bool) (K : Dev nD × Ix → ℕ)

/-! ## What every device knows -/

/-- The invariants of all semaphores, and that each has reached its round. -/
def recs : sProp 𝕄 :=
  iprop((bigSep Finset.univ fun ci : Dev nD × Ix => cellInv ER (Rd X b) (K ci) (cell ci.1 ci.2))
    ∗ bigSep Finset.univ fun ci : Dev nD × Ix => reached ER (cell ci.1 ci.2) 0)

instance recs_persistent : BI.Persistent (recs X b K) := by unfold recs; infer_instance

theorem recs_inv (c : Dev nD) (i : Ix) : recs X b K ⊢ cellInv ER (Rd X b) (K (c, i)) (cell c i) := by
  unfold recs
  have h : (bigSep Finset.univ fun ci : Dev nD × Ix => (cellInv ER (Rd X b) (K ci) (cell ci.1 ci.2) : sProp 𝕄))
      ⊢ cellInv ER (Rd X b) (K (c, i)) (cell c i) := bigSep_elim (Finset.mem_univ (c, i))
  iintro ⟨H, -⟩
  iapply h; iexact H
theorem recs_reached (c : Dev nD) (i : Ix) : recs X b K ⊢ reached ER (cell c i) 0 := by
  unfold recs
  have h : (bigSep Finset.univ fun ci : Dev nD × Ix => (reached ER (cell ci.1 ci.2) 0 : sProp 𝕄)) ⊢ reached ER (cell c i) 0 :=
    bigSep_elim (Finset.mem_univ (c, i))
  iintro ⟨-, H⟩
  iapply h; iexact H

/-- What device `c` owes, whatever it has waited for. -/
def owe (c : Dev nD) (O : CellTallies nD τ sig Unit) : sProp 𝕄 := iprop(∃ W, owes (c : Thread nD τ) O W)
/-- The right to wait on its semaphore `i`, at its round. -/
def pos (c : Dev nD) (i : Ix) : sProp 𝕄 := atPos ER (cell c i) 0 ∅ 0
/-- The right to raise device `c`'s semaphore `i`. -/
def tok (c : Dev nD) (i : Ix) : sProp 𝕄 := dutyTok ER (cell c i) 0 ()
/-- That it is going to be raised. -/
def crd (c : Dev nD) (i : Ix) (n : ℕ) : sProp 𝕄 := cred (tallyAt (cell c i) () n)
/-- Its counter, at zero. -/
def zer (c : Dev nD) (i : Ix) : sProp 𝕄 := semVal (cell c i) 0

/-! ## Waiting -/

/-- A wait on a semaphore that is raised: the waiter receives what it pays, and its counter. -/
theorem wait_close (c : Dev nD) (i : Ix) (hl : live b i = true) {w : TpuEff nD τ sig (Elt F) Λ₀ .tc PUnit} {n : ℕ}
    (hw : ∀ Φ : PUnit → sProp 𝕄, wpE (defs₀ (F := F)) 𝒱₀ (c : Thread nD τ) none Set.univ w Φ = waitSpec (c : Thread nD τ) Set.univ (csem i) n Φ)
    (hn : n = amt b i) (O : CellTallies nD τ sig Unit) (hm : (levAts L lv : sProp 𝕄) ⊢ MayWait (c : Thread nD τ) (csem i) () O)
    {α : Type} {k : PUnit → P F α} {Q : α → sProp 𝕄} :
    iprop(recs X b K ∗ levAts L lv ∗ crd c i (amt b i) ∗ owe c O ∗ pos c i ∗ ((owe c O ∗ zer c i ∗ pays X b c i) -∗ run c (k ⟨⟩) Q))
      ⊢ run c (.op w k) Q := by
  subst hn
  unfold owe pos zer crd
  iintro ⟨#HR, #HL, Hc, ⟨%W, HO⟩, Hat, Hk⟩
  iapply (Rounds.wp_wait_rest_token 𝒱₀ ER (Rd X b) (c : Thread nD τ) none (κ := K (c, i)) hw (Set.mem_univ _) () (O := O) (W := W)
    (R := 0) (m := 0) (T := ∅) (by rw [Nat.zero_add]; exact (expect_cell X b c i hl).symm)) $$ [Hc HO Hat]
  · isplitr; · iapply (recs_inv X b K c i); iexact HR
    isplitl [Hc]; · iexact Hc
    isplitl [HO]; · iexact HO
    isplitr; · iapply hm; iexact HL
    iexact Hat
  iintro ⟨HO, Hat, -, Hp⟩
  ihave Hp := (Entails.of_eq (rest_cell X b c i hl)) $$ Hp
  imod (Rounds.cell_close ER (Rd X b) (Set.mem_univ (K (c, i))) (fun h => h) (R := 0 + 1) (duties_later X b (cell c i))) $$ [Hat] with Hz
  · isplitr; · iapply (recs_inv X b K c i); iexact HR
    iexact Hat
  iapply Hk
  isplitl [HO]; · iexists _; iexact HO
  isplitl [Hz] <;> iassumption

/-- A semaphore that is not raised gives its counter back at any time. -/
theorem idle_close (c : Dev nD) (i : Ix) (hl : live b i = false) :
    iprop(recs X b K ∗ pos c i) ⊢ |={Set.univ}=> zer c i := by
  unfold pos zer
  iintro ⟨#HR, Hat⟩
  iapply (Rounds.cell_close ER (Rd X b) (Set.mem_univ (K (c, i))) (fun h => h) (R := 0) (fun r _ => duties_idle X b c i hl r))
  isplitr; · iapply (recs_inv X b K c i); iexact HR
  iexact Hat

/-- A device that owes nothing may wait on anything. -/
theorem mayWait_free (c : Dev nD) (sm : SemLoc sig) : (levAts L lv : sProp 𝕄) ⊢ MayWait (c : Thread nD τ) sm () 0 := by
  rw [MayWait_zero]; iintro -; iempintro

/-- A device that owes arrivals may wait on anything below them. -/
theorem mayWait_owing (c : Dev nD) (i : Ix) (hi : rank (some i) ≤ 1) (ks : List (Fin 8)) :
    (levAts L lv : sProp 𝕄) ⊢ MayWait (c : Thread nD τ) (csem i) () (owedTo c ks) :=
  mayWait_of c (csem i) (owedTo c ks) 1 (by rw [lv_cell]; exact hi) owedTo_rank

/-! ## Starting the copies -/

/-- What chunk `k`'s copy leaves is what its semaphore pays. -/
theorem land_copy (c : Dev nD) (k : Fin 8) (f : Blk F) :
    iprop(((ck aM k).view.loc (c : Thread nD τ) ↦[(ck aM k).view.set]{fullShare}
          ((ck aM k).view.write (Elt F) f ((ck xM k).view.read (Elt F) (X c)) Finset.univ))
        ∗ (ck xM k).view.loc (c : Thread nD τ) ↦[(ck xM k).view.set]{fullShare} X c)
      ⊢ pays X b c (some (0, k)) := by
  show _ ⊢ iprop(aP c k (X c) ∗ xP c k (X c))
  unfold aP xP
  rw [pointsTo_congr (write_read_a_x k f (X c))]

theorem run_copies (c : Dev nD) (ks : List (Fin 8)) (r : P F PUnit) (Q : PUnit → sProp 𝕄) :
    iprop(recs X b K ∗ (bigSepL ks fun k => iprop(xP c k (X c) ∗ (∃ f, aP c k f) ∗ tok c (some (0, k))))
        ∗ ((bigSepL ks fun k => crd c (some (0, k)) N) -∗ run c r Q))
      ⊢ run c (copies ks r) Q := by
  induction ks with
  | nil =>
    iintro ⟨-, -, Hk⟩
    iapply Hk
    rw [bigSepL_nil]; iempintro
  | cons k ks ih =>
    rw [bigSepL_cons', bigSepL_cons']
    unfold copies
    iintro ⟨#HR, ⟨⟨Hx, ⟨%f, Ha⟩, Ht⟩, Hs⟩, Hk⟩
    unfold xP aP tok
    iapply (Rounds.wp_copy_pointsTo 𝒱₀ ER (Rd X b) (c : Thread nD τ) none (src := ck xM k) (dst := ck aM k) (sem := .dma (locS k))
      (q := fullShare) (κ := K (c, some (0, k))) (r := 0) (d := ()) (fd := f) (fs := X c)
      (duty_mem X b c (some (0, k)) rfl) () N
      (show (ck aM k).view.amount (.dma (locS k)) = N from credit_a k) (amount_cell X b c (some (0, k)) ())
      ((land_copy X b c k f).trans (Entails.of_eq (payload_cell X b c (some (0, k)) ()).symm))) $$ [Hx Ha Ht]
    · isplitr; · iapply (recs_inv X b K c (some (0, k))); iexact HR
      isplitl [Hx]; · iexact Hx
      isplitl [Ha]; · iexact Ha
      isplitl [Ht]; · iexact Ht
      iapply (recs_reached X b K c (some (0, k))); iexact HR
    iintro Hc
    iapply ih
    isplitr; · iexact HR
    isplitl [Hs]; · iexact Hs
    iintro Hcs
    iapply Hk
    isplitl [Hc]
    · unfold crd; iexact Hc
    · iexact Hcs

/-! ## Waiting for the copies -/

theorem run_arrivals (c : Dev nD) (ks : List (Fin 8)) (r : P F PUnit) (Q : PUnit → sProp 𝕄) :
    iprop(recs X b K ∗ levAts L lv ∗ owe c 0 ∗ (bigSepL ks fun k => iprop(crd c (some (0, k)) N ∗ pos c (some (0, k))))
        ∗ ((owe c 0 ∗ bigSepL ks fun k => iprop(aP c k (X c) ∗ xP c k (X c) ∗ zer c (some (0, k)))) -∗ run c r Q))
      ⊢ run c (arrivals ks r) Q := by
  induction ks with
  | nil =>
    iintro ⟨-, -, HO, -, Hk⟩
    iapply Hk
    rw [bigSepL_nil]
    isplitl [HO]; · iexact HO
    iempintro
  | cons k ks ih =>
    rw [bigSepL_cons', bigSepL_cons']
    unfold arrivals
    iintro ⟨#HR, #HL, HO, ⟨⟨Hc, Hp⟩, Hs⟩, Hk⟩
    iapply (wait_close X b K c (some (0, k)) rfl (wpE_waitDma2_eq 𝒱₀ (c : Thread nD τ) none Set.univ) (credit_a k) 0 (mayWait_free c _))
    isplitr; · iexact HR
    isplitr; · iexact HL
    isplitl [Hc]; · iexact Hc
    isplitl [HO]; · iexact HO
    isplitl [Hp]; · iexact Hp
    iintro ⟨HO, Hz, Hp⟩
    ihave Hp := (show pays X b c (some (0, k)) ⊢ iprop(aP c k (X c) ∗ xP c k (X c)) from .rfl) $$ Hp
    icases Hp with ⟨Ha, Hx⟩
    iapply ih
    isplitr; · iexact HR
    isplitr; · iexact HL
    isplitl [HO]; · iexact HO
    isplitl [Hs]; · iexact Hs
    iintro ⟨HO, Hs⟩
    iapply Hk
    isplitl [HO]; · iexact HO
    isplitr [Hs]
    · isplitl [Ha]; · iexact Ha
      isplitl [Hx] <;> iassumption
    · iexact Hs

/-! ## Sending -/

theorem pay_eq (v : Vec F S1x256x1024 .bf16) : pay v = v := by
  unfold pay
  exact shapeCast_shapeCast v shapeCasts_S1x256x1024_S256x1024 shapeCasts_S256x1024_S1x256x1024

/-- What chunk `k`'s transfer leaves on the peer is what the peer's semaphore pays. -/
theorem land_send (c : Dev nD) (k : Fin 8) (f : Blk F) :
    ((ck oM k).view.loc (peer c : Thread nD τ) ↦[(ck oM k).view.set]{fullShare}
          ((ck oM k).view.write (Elt F) f ((ck sM k).view.read (Elt F) (X c)) Finset.univ) : sProp 𝕄)
      ⊢ pays X true (peer c) (some (2, k)) := by
  show _ ⊢ oP (peer c) k (X (peer (peer c)))
  rw [peer_peer]
  unfold oP
  rw [pointsTo_congr (write_read_o_s k f (X c))]

/-- What it leaves from is what the sender's semaphore pays. -/
theorem land_left (c : Dev nD) (k : Fin 8) :
    ((ck sM k).view.loc (c : Thread nD τ) ↦[(ck sM k).view.set]{fullShare} X c : sProp 𝕄) ⊢ pays X true c (some (1, k)) := by
  show _ ⊢ sP c k (X c)
  unfold sP
  exact .rfl

/-- The first scratch chunk loaded and stored to the second. -/
theorem run_move (c : Dev nD) (k : Fin 8) (h : sM.view.LoadsAt (rect k).toLoadRect) (h' : aM.view.LoadsAt (rect k).toLoadRect)
    (r : P F PUnit) (Q : PUnit → sProp 𝕄) :
    iprop(aP c k (X c) ∗ (∃ f, sP c k f) ∗ ((aP c k (X c) ∗ sP c k (X c)) -∗ run c r Q))
      ⊢ run c (.op (.load aM (rect k).toLoadRect h') fun v =>
          .op (.load sM (rect k).toLoadRect h) fun _ => .op (.store sM (rect k) (pay v) Finset.univ (st k) (.inl rfl)) fun _ => r) Q := by
  unfold aP sP
  iintro ⟨Ha, ⟨%f, Hs⟩, Hk⟩
  iapply (wp_load_rect 𝒱₀ (c : Thread nD τ) none Set.univ (m := aM) (r := rect k) (S := (ck aM k).view.set) (Finset.Subset.refl _)) $$ Ha
  iintro Ha
  iapply (wp_load_rect 𝒱₀ (c : Thread nD τ) none Set.univ (m := sM) (r := rect k) (S := (ck sM k).view.set) (Finset.Subset.refl _)) $$ Hs
  iintro Hs
  iapply (wp_store 𝒱₀ (c : Thread nD τ) none Set.univ (m := sM) (r := rect k) (Mk := Finset.univ) (S := (ck sM k).view.set)
    (Finset.Subset.refl _)) $$ Hs
  iintro Hs
  rw [pay_eq]
  iapply Hk
  isplitl [Ha]; · iexact Ha
  iapply (Entails.of_eq (pointsTo_congr (write_read_s_a k f (X c))))
  iexact Hs

theorem run_sends (c : Dev nD) (ks : List (Fin 8)) (r : P F PUnit) (Q : PUnit → sProp 𝕄) :
    iprop(recs X true K ∗ levAts L lv ∗ owe c (owedTo c ks)
        ∗ (bigSepL ks fun k => iprop(crd c (some (0, k)) N ∗ pos c (some (0, k)) ∗ (∃ f, sP c k f) ∗ (∃ f, oP (peer c) k f)
            ∗ tok c (some (1, k)) ∗ tok (peer c) (some (2, k))))
        ∗ ((owe c 0 ∗ bigSepL ks fun k => iprop(aP c k (X c) ∗ xP c k (X c) ∗ zer c (some (0, k)) ∗ crd c (some (1, k)) N)) -∗ run c r Q))
      ⊢ run c (sends (fun _ => peer c) ks r) Q := by
  induction ks with
  | nil =>
    iintro ⟨-, -, HO, -, Hk⟩
    iapply Hk
    rw [bigSepL_nil]
    isplitl [HO]; · iexact HO
    iempintro
  | cons k ks ih =>
    rw [bigSepL_cons', bigSepL_cons']
    unfold sends
    iintro ⟨#HR, #HL, HO, ⟨⟨Hc, Hp, Hs, ⟨%fo, Ho⟩, Ht, Ht'⟩, Hrest⟩, Hk⟩
    iapply (wait_close X true K c (some (0, k)) rfl (wpE_waitDma2_eq 𝒱₀ (c : Thread nD τ) none Set.univ) (credit_a k) (owedTo c (k :: ks))
      (mayWait_owing c (some (0, k)) (Nat.zero_le 1) (k :: ks)))
    isplitr; · iexact HR
    isplitr; · iexact HL
    isplitl [Hc]; · iexact Hc
    isplitl [HO]; · iexact HO
    isplitl [Hp]; · iexact Hp
    iintro ⟨HO, Hz, Hp⟩
    ihave Hp := (show pays X true c (some (0, k)) ⊢ iprop(aP c k (X c) ∗ xP c k (X c)) from .rfl) $$ Hp
    icases Hp with ⟨Ha, Hx⟩
    iapply (run_move X c k)
    isplitl [Ha]; · iexact Ha
    isplitl [Hs]; · iexact Hs
    iintro ⟨Ha, Hs⟩
    unfold owe sP oP tok
    icases HO with ⟨%W, HO⟩
    iapply (Rounds.wp_send_pointsTo 𝒱₀ ER (Rd X true) (c : Thread nD τ) none (c' := (peer c : Thread nD τ)) (src := ck sM k) (dst := ck oM k)
      (sS := .dma (sndS k)) (sem := .dma (rcvS k)) (q := fullShare) (fs := X c) (fd := fo)
      (κ₁ := K (c, some (1, k))) (κ₂ := K (peer c, some (2, k))) (r₁ := 0) (r₂ := 0) (d₁ := ()) (d₂ := ())
      (duty_mem X true c (some (1, k)) rfl) (duty_mem X true (peer c) (some (2, k)) rfl) () () N
      (show (ck oM k).view.amount (.dma (rcvS k)) = N from credit_o k)
      (amount_cell X true c (some (1, k)) ()) (amount_cell X true (peer c) (some (2, k)) ()) (O₀ := owedTo c (k :: ks)) (owedTo c ks) rfl
      ((land_left X c k).trans (Entails.of_eq (payload_cell X true c (some (1, k)) ()).symm))
      ((land_send X c k fo).trans (Entails.of_eq (payload_cell X true (peer c) (some (2, k)) ()).symm))) $$ [Hs Ho HO Ht Ht']
    · isplitr; · iapply (recs_inv X true K c (some (1, k))); iexact HR
      isplitr; · iapply (recs_inv X true K (peer c) (some (2, k))); iexact HR
      isplitl [Hs]; · iexact Hs
      isplitl [Ho]; · iexact Ho
      isplitl [HO]; · iexact HO
      isplitl [Ht]; · iexact Ht
      isplitr; · iapply (recs_reached X true K c (some (1, k))); iexact HR
      isplitl [Ht']; · iexact Ht'
      iapply (recs_reached X true K (peer c) (some (2, k))); iexact HR
    iintro ⟨Hc, HO⟩
    iapply ih
    isplitr; · iexact HR
    isplitr; · iexact HL
    isplitl [HO]; · unfold owe; iexists W; iexact HO
    isplitl [Hrest]
    · unfold sP oP tok; iexact Hrest
    iintro ⟨HO, Hs⟩
    iapply Hk
    isplitl [HO]; · unfold owe; iexact HO
    isplitr [Hs]
    · isplitl [Ha]; · iexact Ha
      isplitl [Hx]; · iexact Hx
      isplitl [Hz]; · iexact Hz
      unfold crd; iexact Hc
    · iexact Hs

/-! ## Waiting for the transfers -/

theorem run_finishes (c : Dev nD) (ks : List (Fin 8)) (r : P F PUnit) (Q : PUnit → sProp 𝕄) :
    iprop(recs X true K ∗ levAts L lv ∗ owe c 0
        ∗ (bigSepL ks fun k => iprop(crd c (some (1, k)) N ∗ pos c (some (1, k)) ∗ crd c (some (2, k)) N ∗ pos c (some (2, k))))
        ∗ ((owe c 0 ∗ bigSepL ks fun k => iprop(sP c k (X c) ∗ zer c (some (1, k)) ∗ oP c k (X (peer c)) ∗ zer c (some (2, k)))) -∗ run c r Q))
      ⊢ run c (finishes ks r) Q := by
  induction ks with
  | nil =>
    iintro ⟨-, -, HO, -, Hk⟩
    iapply Hk
    rw [bigSepL_nil]
    isplitl [HO]; · iexact HO
    iempintro
  | cons k ks ih =>
    rw [bigSepL_cons', bigSepL_cons']
    unfold finishes
    iintro ⟨#HR, #HL, HO, ⟨⟨Hc, Hp, Hc', Hp'⟩, Hrest⟩, Hk⟩
    iapply (wait_close X true K c (some (1, k)) rfl (wpE_waitDma2_eq 𝒱₀ (c : Thread nD τ) none Set.univ) (credit_s k) 0 (mayWait_free c _))
    isplitr; · iexact HR
    isplitr; · iexact HL
    isplitl [Hc]; · iexact Hc
    isplitl [HO]; · iexact HO
    isplitl [Hp]; · iexact Hp
    iintro ⟨HO, Hz, Hs⟩
    iapply (wait_close X true K c (some (2, k)) rfl (wpE_waitDma2_eq 𝒱₀ (c : Thread nD τ) none Set.univ) (credit_o k) 0 (mayWait_free c _))
    isplitr; · iexact HR
    isplitr; · iexact HL
    isplitl [Hc']; · iexact Hc'
    isplitl [HO]; · iexact HO
    isplitl [Hp']; · iexact Hp'
    iintro ⟨HO, Hz', Ho⟩
    iapply ih
    isplitr; · iexact HR
    isplitr; · iexact HL
    isplitl [HO]; · iexact HO
    isplitl [Hrest]; · iexact Hrest
    iintro ⟨HO, Hrest⟩
    iapply Hk
    isplitl [HO]; · iexact HO
    isplitr [Hrest]
    · isplitl [Hs]; · iapply (show pays X true c (some (1, k)) ⊢ sP c k (X c) from .rfl); iexact Hs
      isplitl [Hz]; · iexact Hz
      isplitl [Ho]; · iapply (show pays X true c (some (2, k)) ⊢ oP c k (X (peer c)) from .rfl); iexact Ho
      iexact Hz'
    · iexact Hrest

end Swap

end
-- ==== Proof.Words.lean ====
/-
# The word the kernel branches on

A device reads the entry of the table at its own position along the second mesh axis. For the table that exchanges
the two positions the word names the other position, for the table that keeps them its own; the kernel's conditions
and the devices its transfers name follow.
-/
module

public import proofs.«01_k».proof.Proof.Protocol

@[expose] public section

noncomputable section

namespace Swap

open Cert.KernelIdeal Cert.KernelIdeal.Gen

open Idealize.ShloMosaic
open Idealize.ShloMosaic.TcCoe

variable {F : FTy → Type}

/-- The table: where blocks move, `1 - i` at `i`; where they stay, `i`. -/
def table (b : Bool) : S2.Idx → Elt F .i32 := fun i => if b then 1#32 - BitVec.ofNat 32 (i 0).val else BitVec.ofNat 32 (i 0).val

/-- The word device `c` reads of it. -/
def word (b : Bool) (c : Dev nD) : BitVec 32 := if b then 1#32 - BitVec.ofNat 32 (c.val / 4 % 2) else BitVec.ofNat 32 (c.val / 4 % 2)

theorem cond1_swap (c : Dev nD) : ¬ cond1 c (word true c) = 1#1 := by revert c; decide +kernel
theorem cond1_stay (c : Dev nD) : cond1 c (word false c) = 1#1 := by revert c; decide +kernel
theorem cond2_swap (c : Dev nD) : k0_cond2 c (word true c) = 1#1 := by revert c; decide +kernel
theorem cond2_stay (c : Dev nD) : ¬ k0_cond2 c (word false c) = 1#1 := by revert c; decide +kernel

instance (d : Dev nD) (w : BitVec 32) : Decidable (k0_chk1 d w) := k0_chk1.dec d w
theorem chk_word (b : Bool) (c : Dev nD) : k0_chk1 c (word b c) := by revert b c; decide +kernel

/-- Every transfer goes to the peer. -/
theorem dev_words (c : Dev nD) : k0_dev2 c (word true c) = (peer c).val ∧ k0_dev3 c (word true c) = (peer c).val
    ∧ k0_dev4 c (word true c) = (peer c).val ∧ k0_dev5 c (word true c) = (peer c).val ∧ k0_dev6 c (word true c) = (peer c).val
    ∧ k0_dev7 c (word true c) = (peer c).val ∧ k0_dev8 c (word true c) = (peer c).val ∧ k0_dev9 c (word true c) = (peer c).val := by
  revert c; decide +kernel

theorem targets_word (c : Dev nD) (h : k0_chk1 c (word true c)) (h2 : k0_cond2 c (word true c) = 1#1) :
    targets c (word true c) h h2 = fun _ => peer c := by
  obtain ⟨e0, e1, e2, e3, e4, e5, e6, e7⟩ := dev_words c
  funext k
  fin_cases k
  exacts [Fin.ext e0, Fin.ext e1, Fin.ext e2, Fin.ext e3, Fin.ext e4, Fin.ext e5, Fin.ext e6, Fin.ext e7]

/-- The barrier signal too. -/
theorem signal_peer (c : Dev nD) : (⟨k0_dev1 c, k0_dev1_lt c⟩ : Dev nD) = peer c := Fin.ext (k0_dev1_eq c)

/-- What the kernel's load of the table returns. -/
theorem read_table (b : Bool) (c : Dev nD) (j : S1.Idx) :
    ((Memref.whole cc0_stg0_0).access (Rect.unit (s := S2) (k0_off1 c) S1.size (k0_off1_inb c))).read (Elt F) (table b) j = word b c := by
  show table b ((Rect.unit (s := S2) (k0_off1 c) S1.size (k0_off1_inb c)).emb j) = word b c
  have hv : ((Rect.unit (s := S2) (k0_off1 c) S1.size (k0_off1_inb c)).emb j 0).val = c.val / 4 % 2 := by
    show k0_off1 c 0 + 1 * (j 0).val = _
    rw [k0_off1_eq]
    have hj : (j 0).val < 1 := (j 0).isLt
    show c.val / 4 % 2 + 1 * (j 0).val = _
    omega
  unfold table word
  rw [hv]

end Swap

end
-- ==== Proof.Body.lean ====
/-
# The whole body

A device runs the kernel's body from its blocks, its rights on the protocol's semaphores and what it owes, to the
result: the peer's block where blocks move, its own where they stay. All semaphores it waits on are back at zero and
it owes nothing.
-/
module

public import proofs.«01_k».proof.Proof.Passes
public import proofs.«01_k».proof.Proof.Words

@[expose] public section

noncomputable section

namespace Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Blk F) (b : Bool) (K : Dev nD × Ix → ℕ)

/-! ## Families over a device's semaphores -/

/-- The chunks' semaphores of one of the three kinds. -/
abbrev row (a : Fin 3) (Φ : Ix → sProp 𝕄) : sProp 𝕄 := bigSepL all fun k => Φ (some (a, k))

theorem over_ix (Φ : Ix → sProp 𝕄) : bigSep Finset.univ Φ = iprop(Φ none ∗ row 0 Φ ∗ row 1 Φ ∗ row 2 Φ) := by
  rw [bigSep_univ_eq_bigSepL (none :: ((all.map fun k => some (0, k)) ++ ((all.map fun k => some (1, k)) ++ all.map fun k => some (2, k))))
    (by decide +kernel) (by decide +kernel) Φ, bigSepL_cons', bigSepL_append, bigSepL_append, bigSepL_map, bigSepL_map, bigSepL_map]

theorem sep_all (Φ Ψ : Fin 8 → sProp 𝕄) : (bigSepL all fun k => iprop(Φ k ∗ Ψ k)) = iprop(bigSepL all Φ ∗ bigSepL all Ψ) := by
  rw [← univ_all, ← univ_all, ← univ_all, bigSep_sep']

/-- A buffer of some contents gives chunks of some contents. -/
theorem some_chunks (Φ : Fin 8 → Blk F → sProp 𝕄) :
    iprop(∃ f, bigSepL all fun k => Φ k f) ⊢ bigSepL all fun k => iprop(∃ f, Φ k f) := by
  iintro ⟨%f, H⟩
  iapply (bigSepL_mono (Φ := fun k => Φ k f) fun k _ => show Φ k f ⊢ iprop(∃ f, Φ k f) from by iintro H; iexists f; iexact H)
  iexact H

/-- By how much a device's semaphore is raised by its peer. -/
def due : Ix → ℕ
  | none => 1
  | some (2, _) => if b then N else 0
  | _ => 0

/-! ## Up to the branch -/

theorem run_main (c : Dev nD) (Q : PUnit → sProp 𝕄) :
    run c (main c (word b c)) Q = run c (copies all <|
      .op (.semSignal ((⟨k0_dev1 c, k0_dev1_lt c⟩ : Dev nD) : Thread nD τ) barS (1#32 : BitVec 32).toInt) fun _ =>
      .op (.semWait barS (1#32 : BitVec 32).toInt) fun _ =>
      if cond1 c (word b c) = 1#1 then stay (moves c (word b c) (chk_word b c)) else moves c (word b c) (chk_word b c)) Q :=
  wp_assume_of 𝒱₀ (c : Thread nD τ) none Set.univ (d := k0_chk1.dec c (word b c)) (chk_word b c)

/-- The copies of `x` started, the peer signalled, the peer's signal received. -/
theorem run_start (c : Dev nD) (Q : PUnit → sProp 𝕄) :
    iprop(recs X b K ∗ levAts L lv ∗ owe c (O₀ b c) ∗ pos c none ∗ tok (peer c) none ∗ crd c none 1 ∗ pays X b (peer c) none
        ∗ ((c : Thread nD τ).loc cc0_stg0_0 ↦{fullShare} table b)
        ∗ (bigSepL all fun k => iprop(xP c k (X c) ∗ (∃ f, aP c k f) ∗ tok c (some (0, k))))
        ∗ ((owe c (O₁ b c) ∗ zer c none ∗ pays X b c none ∗ ((c : Thread nD τ).loc cc0_stg0_0 ↦{fullShare} table b)
              ∗ bigSepL all fun k => crd c (some (0, k)) N)
            -∗ run c (if cond1 c (word b c) = 1#1 then stay (moves c (word b c) (chk_word b c)) else moves c (word b c) (chk_word b c)) Q))
      ⊢ run c prog Q := by
  iintro ⟨#HR, #HL, HO, Hp, Ht, Hc, Hpay, Hw, Hx, Hk⟩
  unfold prog
  simp only [smemLoad, smemLoadElt, Prog.bind_op, Prog.bind_ret, wp_deviceId]
  iapply (wp_load_rect 𝒱₀ (c : Thread nD τ) none Set.univ (m := Memref.whole cc0_stg0_0)
    (r := Rect.unit (s := S2) (k0_off1 c) S1.size (k0_off1_inb c)) (Finset.subset_univ _)) $$ Hw
  iintro Hw
  simp only [Prog.bind, read_table (F := F) b c]
  iapply (Entails.of_eq (run_main (F := F) b c Q).symm)
  iapply (run_copies X b K c all)
  isplitr; · iexact HR
  isplitl [Hx]; · iexact Hx
  iintro Hcs
  unfold owe tok
  icases HO with ⟨%W, HO⟩
  rw [signal_peer]
  iapply (Rounds.wp_signal 𝒱₀ ER (Rd X b) (c : Thread nD τ) none (dst := (peer c : Thread nD τ)) (κ := K (peer c, none)) (d := ())
      (duty_mem X b (peer c) none rfl) ((amount_cell X b (peer c) none ()).trans (show 1 = _ by decide)) () (O₁ b c) rfl)
    $$ [HO Ht Hpay]
  · isplitr; · iapply (recs_inv X b K (peer c) none); iexact HR
    isplitl [HO]; · iexact HO
    isplitl [Ht]; · iexact Ht
    isplitl [Hpay]; · iapply (Entails.of_eq (payload_cell X b (peer c) none ()).symm); iexact Hpay
    iapply (recs_reached X b K (peer c) none); iexact HR
  iintro HO
  iapply (wait_close X b K c none rfl (wpE_semWait_eq 𝒱₀ (c : Thread nD τ) none Set.univ) (show _ = 1 by decide) (O₁ b c)
    (mayWait_of c (csem none) (O₁ b c) 1 (by rw [lv_bar]) (O₁_rank b)))
  isplitr; · iexact HR
  isplitr; · iexact HL
  isplitl [Hc]; · iexact Hc
  isplitl [HO]; · unfold owe; iexists W; iexact HO
  isplitl [Hp]; · iexact Hp
  iintro ⟨HO, Hz, Hpay⟩
  iapply Hk
  isplitl [HO]; · unfold owe; iexact HO
  isplitl [Hz]; · iexact Hz
  isplitl [Hpay]; · iexact Hpay
  isplitl [Hw]; · iexact Hw
  iexact Hcs

theorem run_ret (c : Dev nD) {Q : PUnit → sProp 𝕄} : Q ⟨⟩ ⊢ run c (.ret ⟨⟩) Q := by
  unfold run
  rw [wp_ret]
  iintro H
  imodintro
  iexact H

/-! ## Where blocks move -/

theorem run_swap (c : Dev nD) (Q : PUnit → sProp 𝕄) :
    iprop(recs X true K ∗ levAts L lv ∗ owe c (owedTo c all) ∗ (bigSepL all fun k => crd c (some (0, k)) N) ∗ row 0 (pos c)
        ∗ (∃ f, sW c f) ∗ (bigSepL all fun k => iprop(∃ f, oP (peer c) k f)) ∗ row 1 (tok c) ∗ row 2 (tok (peer c))
        ∗ row 1 (pos c) ∗ (bigSepL all fun k => crd c (some (2, k)) N) ∗ row 2 (pos c)
        ∗ ((owe c 0 ∗ xW c (X c) ∗ oW c (X (peer c)) ∗ (∃ f, aW c f) ∗ (∃ f, sW c f) ∗ row 0 (zer c) ∗ row 1 (zer c) ∗ row 2 (zer c)) -∗ Q ⟨⟩))
      ⊢ run c (swap fun _ => peer c) Q := by
  iintro ⟨#HR, #HL, HO, Hc0, Hp0, Hs, Ho, Ht1, Ht2, Hp1, Hc2, Hp2, Hk⟩
  unfold swap
  iapply (run_sends X K c all)
  isplitr; · iexact HR
  isplitr; · iexact HL
  isplitl [HO]; · iexact HO
  isplitl [Hc0 Hp0 Hs Ho Ht1 Ht2]
  · rw [sep_all, sep_all, sep_all, sep_all, sep_all]
    isplitl [Hc0]; · iexact Hc0
    isplitl [Hp0]; · iexact Hp0
    isplitl [Hs]
    · iapply (some_chunks fun k f => sP c k f)
      simp only [← sW_eq]; iexact Hs
    isplitl [Ho]; · iexact Ho
    isplitl [Ht1] <;> iassumption
  rw [sep_all, sep_all, sep_all]
  iintro ⟨HO, Ha, Hx, Hz0, Hc1⟩
  iapply (run_finishes X K c all)
  isplitr; · iexact HR
  isplitr; · iexact HL
  isplitl [HO]; · iexact HO
  isplitl [Hc1 Hp1 Hc2 Hp2]
  · rw [sep_all, sep_all, sep_all]
    isplitl [Hc1]; · iexact Hc1
    isplitl [Hp1]; · iexact Hp1
    isplitl [Hc2] <;> iassumption
  rw [sep_all, sep_all, sep_all]
  iintro ⟨HO, Hs, Hz1, Ho, Hz2⟩
  iapply (run_ret c)
  iapply Hk
  isplitl [HO]; · iexact HO
  isplitl [Hx]; · rw [xW_eq]; iexact Hx
  isplitl [Ho]; · rw [oW_eq]; iexact Ho
  isplitl [Ha]; · iexists (X c); rw [aW_eq]; iexact Ha
  isplitl [Hs]; · iexists (X c); rw [sW_eq]; iexact Hs
  isplitl [Hz0]; · iexact Hz0
  isplitl [Hz1] <;> iassumption

/-! ## Where blocks stay -/

theorem zeros : (![0, 0, 0] : Fin 3 → ℕ) = fun _ => 0 := funext fun a => by fin_cases a <;> rfl

theorem read_whole (f : Blk F) : aM.view.readAt (Elt F) rectW.toLoadRect f = f :=
  Memref.readAt_unit_zero (Elt F) cc0_scratch0 zeros _ f
theorem write_whole (f w : Blk F) : (sM.access rectW).write (Elt F) f w Finset.univ = w :=
  Memref.write_access_unit_zero_univ (Elt F) cc0_scratch1 zeros _ f w

theorem pay1_eq (v : Vec F S1x2048x1024 .bf16) : k0_pay1 v = v := by
  unfold k0_pay1
  first | rfl | exact shapeCast_self v _ | exact shapeCast_shapeCast v _ _

/-- A family whose semaphores are not raised gives its counters back. -/
theorem idle_row (c : Dev nD) (a : Fin 3) (ks : List (Fin 8)) (h : ∀ k ∈ ks, live b (some (a, k)) = false) :
    iprop(recs X b K ∗ bigSepL ks fun k => pos c (some (a, k))) ⊢ |={Set.univ}=> bigSepL ks fun k => zer c (some (a, k)) := by
  induction ks with
  | nil => rw [bigSepL_nil, bigSepL_nil]; iintro ⟨-, H⟩; imodintro; iexact H
  | cons k ks ih =>
    rw [bigSepL_cons', bigSepL_cons']
    iintro ⟨#HR, Hp, Hs⟩
    imod (idle_close X b K c (some (a, k)) (h k List.mem_cons_self)) $$ [Hp] with Hz
    · isplitr; · iexact HR
      iexact Hp
    imod (ih fun l hl => h l (List.mem_cons_of_mem k hl)) $$ [Hs] with Hs
    · isplitr; · iexact HR
      iexact Hs
    imodintro
    isplitl [Hz] <;> iassumption

/-- What the copy of the whole buffer leaves is what its semaphore pays. -/
theorem land_whole (c : Dev nD) (f : Blk F) :
    iprop((oM.view.loc (c : Thread nD τ) ↦[oM.view.set]{fullShare}
          (oM.view.write (Elt F) f (sM.view.read (Elt F) (X c)) Finset.univ))
        ∗ sM.view.loc (c : Thread nD τ) ↦[sM.view.set]{fullShare} X c)
      ⊢ pays X false c (some (1, 0)) := by
  show _ ⊢ iprop(oW c (X c) ∗ sW c (X c))
  have h : oM.view.write (Elt F) f (sM.view.read (Elt F) (X c)) Finset.univ = X c := by
    show (View.whole main_v1).write (Elt F) f ((View.whole cc0_scratch1).read (Elt F) (X c)) Finset.univ = X c
    rw [View.read_whole]
    exact View.write_whole_univ _ _ _
  unfold oW sW
  rw [h, show oM.view.set = Finset.univ from View.set_whole _, show sM.view.set = Finset.univ from View.set_whole _]

theorem run_stay (c : Dev nD) (Q : PUnit → sProp 𝕄) :
    iprop(recs X false K ∗ levAts L lv ∗ owe c 0 ∗ (bigSepL all fun k => crd c (some (0, k)) N) ∗ row 0 (pos c)
        ∗ (∃ f, sW c f) ∗ (∃ f, oW c f) ∗ row 1 (tok c) ∗ row 1 (pos c) ∗ row 2 (pos c)
        ∗ ((owe c 0 ∗ xW c (X c) ∗ oW c (X c) ∗ (∃ f, aW c f) ∗ (∃ f, sW c f) ∗ row 0 (zer c) ∗ row 1 (zer c) ∗ row 2 (zer c)) -∗ Q ⟨⟩))
      ⊢ run c (stay (.ret ⟨⟩)) Q := by
  iintro ⟨#HR, #HL, HO, Hc0, Hp0, ⟨%fs, Hs⟩, ⟨%fo, Ho⟩, Ht1, Hp1, Hp2, Hk⟩
  unfold stay
  iapply (run_arrivals X false K c all)
  isplitr; · iexact HR
  isplitr; · iexact HL
  isplitl [HO]; · iexact HO
  isplitl [Hc0 Hp0]
  · rw [sep_all]
    isplitl [Hc0] <;> iassumption
  rw [sep_all, sep_all]
  iintro ⟨HO, Ha, Hx, Hz0⟩
  ihave Ha := (Entails.of_eq (aW_eq c (X c)).symm) $$ Ha
  ihave Hx := (Entails.of_eq (xW_eq c (X c)).symm) $$ Hx
  unfold aW sW oW
  iapply (wp_load 𝒱₀ (c : Thread nD τ) none Set.univ (m := aM) (Finset.subset_univ _)) $$ Ha
  iintro Ha
  iapply (wp_load 𝒱₀ (c : Thread nD τ) none Set.univ (m := sM) (Finset.subset_univ _)) $$ Hs
  iintro Hs
  rw [pay1_eq, read_whole]
  iapply (wp_store 𝒱₀ (c : Thread nD τ) none Set.univ (m := sM) (r := rectW) (Mk := Finset.univ) (Finset.subset_univ _)) $$ Hs
  iintro Hs
  rw [write_whole]
  -- the copy of the whole buffer to the result
  ihave Ht1 := (Entails.of_eq (bigSepL_cons' (0 : Fin 8) [1, 2, 3, 4, 5, 6, 7] (fun k => tok c (some (1, k))))) $$ Ht1
  icases Ht1 with ⟨Ht, -⟩
  ihave Hp1 := (Entails.of_eq (bigSepL_cons' (0 : Fin 8) [1, 2, 3, 4, 5, 6, 7] (fun k => pos c (some (1, k))))) $$ Hp1
  icases Hp1 with ⟨Hp, Hp1⟩
  unfold tok
  iapply (Rounds.wp_copy_pointsTo 𝒱₀ ER (Rd X false) (c : Thread nD τ) none (src := sM) (dst := oM) (sem := .dma (sndS 0))
      (q := fullShare) (κ := K (c, some (1, 0))) (r := 0) (d := ()) (fd := fo) (fs := X c)
      (duty_mem X false c (some (1, 0)) rfl) () NW
      (show oM.view.amount (.dma (sndS 0)) = NW from credit_W) (amount_cell X false c (some (1, 0)) ())
      ((land_whole X c fo).trans (Entails.of_eq (payload_cell X false c (some (1, 0)) ()).symm))) $$ [Hs Ho Ht]
  · isplitr; · iapply (recs_inv X false K c (some (1, 0))); iexact HR
    isplitl [Hs]; · rw [View.set_whole]; iexact Hs
    isplitl [Ho]; · rw [View.set_whole]; iexact Ho
    isplitl [Ht]; · iexact Ht
    iapply (recs_reached X false K c (some (1, 0))); iexact HR
  iintro Hc
  iapply (wait_close X false K c (some (1, 0)) rfl (wpE_waitDma2_eq 𝒱₀ (c : Thread nD τ) none Set.univ) credit_W 0 (mayWait_free c _))
  isplitr; · iexact HR
  isplitr; · iexact HL
  isplitl [Hc]; · unfold crd; iexact Hc
  isplitl [HO]; · iexact HO
  isplitl [Hp]; · iexact Hp
  iintro ⟨HO, Hz, Hp⟩
  ihave Hp := (show pays X false c (some (1, 0)) ⊢ iprop(oW c (X c) ∗ sW c (X c)) from .rfl) $$ Hp
  icases Hp with ⟨Ho, Hs⟩
  unfold oW sW
  imod (idle_row X false K c 1 [1, 2, 3, 4, 5, 6, 7] (by decide)) $$ [Hp1] with Hz1
  · isplitr; · iexact HR
    iexact Hp1
  imod (idle_row X false K c 2 all (by decide)) $$ [Hp2] with Hz2
  · isplitr; · iexact HR
    iexact Hp2
  iapply (run_ret c)
  iapply Hk
  isplitl [HO]; · iexact HO
  isplitl [Hx]; · iexact Hx
  isplitl [Ho]; · iexact Ho
  isplitl [Ha]; · iexists (X c); iexact Ha
  isplitl [Hs]; · iexists (X c); iexact Hs
  isplitl [Hz0]; · iexact Hz0
  isplitl [Hz Hz1]
  · iapply (Entails.of_eq (bigSepL_cons' (0 : Fin 8) [1, 2, 3, 4, 5, 6, 7] (fun k => zer c (some (1, k)))).symm)
    isplitl [Hz] <;> iassumption
  iexact Hz2

/-! ## The whole body -/

/-- The block a device ends with. -/
def fin (c : Dev nD) : Blk F := X (if b then peer c else c)

/-- What a device starts from besides its table. -/
def start (c : Dev nD) : sProp 𝕄 :=
  iprop(recs X b K ∗ levAts L lv ∗ bigSep Finset.univ (pos c) ∗ (bigSep Finset.univ fun i => tok (payee i c) i)
    ∗ (bigSep Finset.univ fun i => crd c i (due b i)) ∗ xW c (X c) ∗ (∃ f, oW c f))

/-- What it ends with. -/
def done (c : Dev nD) : sProp 𝕄 :=
  iprop(xW c (X c) ∗ oW c (fin X b c) ∗ (∃ f, aW c f) ∗ (∃ f, sW c f) ∗ bigSep Finset.univ (zer c))

theorem run_body (c : Dev nD) (Q : PUnit → sProp 𝕄) :
    iprop(start X b K c ∗ (∃ f, aW c f) ∗ (∃ f, sW c f) ∗ owe c (O₀ b c) ∗ ((c : Thread nD τ).loc cc0_stg0_0 ↦{fullShare} table b)
        ∗ ((done X b c ∗ owe c 0 ∗ ((c : Thread nD τ).loc cc0_stg0_0 ↦{fullShare} table b)) -∗ Q ⟨⟩))
      ⊢ run c prog Q := by
  unfold start done
  rw [over_ix, over_ix, over_ix, over_ix]
  iintro ⟨⟨#HR, #HL, ⟨Hp, Hp0, Hp1, Hp2⟩, ⟨Ht, Ht0, Ht1, Ht2⟩, ⟨Hc, -, -, Hc2⟩, Hx, Ho⟩, Ha, Hs, HO, Hw, Hk⟩
  iapply (run_start X b K c)
  isplitr; · iexact HR
  isplitr; · iexact HL
  isplitl [HO]; · iexact HO
  isplitl [Hp]; · iexact Hp
  isplitl [Ht]; · iapply (show tok (payee none c) none ⊢ tok (F := F) (peer c) none from .rfl); iexact Ht
  isplitl [Hc]; · iapply (show crd c none (due b none) ⊢ crd (F := F) c none 1 from .rfl); iexact Hc
  have hcopies : iprop(xW c (X c) ∗ (∃ f, aW c f) ∗ row 0 (fun i => tok (payee i c) i))
      ⊢ bigSepL all fun k => iprop(xP c k (X c) ∗ (∃ f, aP c k f) ∗ tok c (some (0, k))) := by
    rw [sep_all, sep_all, xW_eq]
    iintro ⟨Hx, Ha, Ht⟩
    isplitl [Hx]; · iexact Hx
    isplitl [Ha]
    · iapply (some_chunks fun k f => aP c k f)
      simp only [← aW_eq]; iexact Ha
    iexact Ht
  cases b
  · -- blocks stay
    isplitr; · iapply (show (emp : sProp 𝕄) ⊢ pays X false (peer c) none from .rfl); iempintro
    isplitl [Hw]; · iexact Hw
    isplitl [Hx Ha Ht0]
    · iapply hcopies
      isplitl [Hx]; · iexact Hx
      isplitl [Ha] <;> iassumption
    iintro ⟨HO, Hz, -, Hw, Hc0⟩
    rw [if_pos (cond1_stay c), show moves (F := F) c (word false c) (chk_word false c) = .ret ⟨⟩ from dif_neg (cond2_stay c)]
    iapply (run_stay X K c)
    isplitr; · iexact HR
    isplitr; · iexact HL
    isplitl [HO]; · iapply (show owe c (O₁ false c) ⊢ owe (F := F) c 0 from .rfl); iexact HO
    isplitl [Hc0]; · iexact Hc0
    isplitl [Hp0]; · iexact Hp0
    isplitl [Hs]; · iexact Hs
    isplitl [Ho]; · iexact Ho
    isplitl [Ht1]; · iexact Ht1
    isplitl [Hp1]; · iexact Hp1
    isplitl [Hp2]; · iexact Hp2
    iintro ⟨HO, Hx, Ho, Ha, Hs, Hz0, Hz1, Hz2⟩
    iapply Hk
    isplitr [HO Hw]
    · isplitl [Hx]; · iexact Hx
      isplitl [Ho]; · iexact Ho
      isplitl [Ha]; · iexact Ha
      isplitl [Hs]; · iexact Hs
      isplitl [Hz]; · iexact Hz
      isplitl [Hz0]; · iexact Hz0
      isplitl [Hz1] <;> iassumption
    isplitl [HO] <;> iassumption
  · -- blocks move
    isplitl [Ho]
    · iapply (show (bigSepL all fun k => iprop(∃ f, oP (peer (peer c)) k f)) ⊢ pays X true (peer c) none from .rfl)
      rw [peer_peer]
      iapply (some_chunks fun k f => oP c k f)
      simp only [← oW_eq]; iexact Ho
    isplitl [Hw]; · iexact Hw
    isplitl [Hx Ha Ht0]
    · iapply hcopies
      isplitl [Hx]; · iexact Hx
      isplitl [Ha] <;> iassumption
    iintro ⟨HO, Hz, Ho, Hw, Hc0⟩
    rw [if_neg (cond1_swap c), show moves (F := F) c (word true c) (chk_word true c) = swap fun _ => peer c from
      (dif_pos (cond2_swap c)).trans (congrArg swap (targets_word c _ _))]
    iapply (run_swap X K c)
    isplitr; · iexact HR
    isplitr; · iexact HL
    isplitl [HO]; · iapply (show owe c (O₁ true c) ⊢ owe (F := F) c (owedTo c all) from .rfl); iexact HO
    isplitl [Hc0]; · iexact Hc0
    isplitl [Hp0]; · iexact Hp0
    isplitl [Hs]; · iexact Hs
    isplitl [Ho]
    · iapply (show pays X true c none ⊢ bigSepL all fun k => iprop(∃ f, oP (peer c) k f) from .rfl); iexact Ho
    isplitl [Ht1]; · iexact Ht1
    isplitl [Ht2]; · iexact Ht2
    isplitl [Hp1]; · iexact Hp1
    isplitl [Hc2]; · iexact Hc2
    isplitl [Hp2]; · iexact Hp2
    iintro ⟨HO, Hx, Ho, Ha, Hs, Hz0, Hz1, Hz2⟩
    iapply Hk
    isplitr [HO Hw]
    · isplitl [Hx]; · iexact Hx
      isplitl [Ho]; · iexact Ho
      isplitl [Ha]; · iexact Ha
      isplitl [Hs]; · iexact Hs
      isplitl [Hz]; · iexact Hz
      isplitl [Hz0]; · iexact Hz0
      isplitl [Hz1] <;> iassumption
    isplitl [HO] <;> iassumption

end Swap

end
-- ==== Proof.Deal.lean ====
/-
# Dealing out the protocol at launch

From all semaphores at zero come the invariants of the protocol, known to everyone; each device keeps the right to
wait on its own semaphores and receives the right to raise those it raises, its own or its peer's. What the devices owe
at launch is matched, semaphore by semaphore, by the credit of the device waiting there.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

variable (X : Dev nD → Blk F) (b : Bool)

/-! ## What is minted -/

/-- Every semaphore of the protocol. -/
def cells : Finset (GSem nD τ sig) := Finset.univ.map ⟨fun ci : Dev nD × Ix => cell ci.1 ci.2, cell_injective⟩

/-- The one right to raise each. -/
def toks : Finset (GSem nD τ sig × ℕ × Unit) :=
  Finset.univ.map ⟨fun ci : Dev nD × Ix => (cell ci.1 ci.2, 0, ()), fun _ _ h => cell_injective (congrArg Prod.fst h)⟩

/-- The ghost state the launch mints, the pipeline's and the protocol's. -/
def u₀ : UU := (initOf (Pipeline.cells cfgs cellOf_inj) (Pipeline.launchToks cfgs cellOf_inj), initOf cells toks)

/-- Device `c`'s part of it. -/
def mint (c : Dev nD) : sProp 𝕄 :=
  iprop((bigSep Finset.univ fun i => roundState ER (Rd X b) (cell c i) 0) ∗ bigSep Finset.univ (pos c)
    ∗ (bigSep Finset.univ fun i => reached ER (cell c i) 0) ∗ bigSep Finset.univ (tok c))

theorem over_cells (Φ : GSem nD τ sig → sProp 𝕄) :
    bigSep cells Φ = bigSep Finset.univ fun c : Dev nD => bigSep Finset.univ fun i : Ix => Φ (cell c i) := by
  unfold cells; rw [bigSep_map, bigSep_univ_prod]; rfl

theorem over_toks : (bigSep toks fun x => (dutyTok ER x.1 x.2.1 x.2.2 : sProp 𝕄)) = bigSep Finset.univ fun c : Dev nD => bigSep Finset.univ (tok c) := by
  unfold toks; rw [bigSep_map, bigSep_univ_prod]; rfl

theorem fund : BI.own (ER (initOf cells toks)) ⊢ (|==> bigSep Finset.univ (mint X b) : sProp 𝕄) := by
  iintro HX
  imod (Rounds.fund ER (Rd X b) cells toks) $$ HX with ⟨Hst, Hr, Hat, Htok⟩
  imodintro
  ihave Hst := (Entails.of_eq (over_cells fun g => roundState ER (Rd X b) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold mint; simp only [bigSep_sep']
  isplitl [Hst]; · iexact Hst
  isplitl [Hat]; · unfold pos; iexact Hat
  isplitl [Hr]; · iexact Hr
  iexact Htok

/-! ## The semaphores at zero -/

theorem ownSemFacts : Pipeline.OwnSemFacts cfg0.spec osem := by decide +kernel

theorem erase_none : (Finset.univ : Finset Ix).erase none = Finset.univ.map Function.Embedding.some := by decide +kernel

/-- The barrier is the one semaphore that outlives the kernel. -/
theorem unscoped_eq (c : Dev nD) : (unscopedSems0 c : sProp 𝕄) = zer c none := by
  unfold unscopedSems0; rw [bigSep_eq_bigSepL_of_eq [SemLoc.reg barS] (by decide +kernel) (by decide +kernel)]; rfl

theorem zeros_eq (c : Dev nD) :
    (bigSep Finset.univ (zer c) : sProp 𝕄)
      = iprop(unscopedSems0 c ∗ Pipeline.ownSems0 (Ix := Unit) (Name := ℕ) (U := UU) (Lvl := ℕ) (Val := Elt F) (τ := τ) osem c) := by
  rw [bigSep_univ_split (none : Ix), erase_none, bigSep_map, unscoped_eq]; rfl

/-! ## The invariants, and who gets what -/

theorem alloc (c : Dev nD) :
    iprop(Pipeline.ownSems0 (Ix := Unit) (Name := ℕ) (U := UU) (Lvl := ℕ) (Val := Elt F) (τ := τ) osem c ∗ unscopedSems0 c ∗ mint X b c)
      ⊢ |={Set.univ}=> iprop((bigSep Finset.univ fun i => iprop(∃ κ : ℕ, cellInv ER (Rd X b) κ (cell c i)))
          ∗ bigSep Finset.univ (pos c) ∗ (bigSep Finset.univ fun i => reached ER (cell c i) 0) ∗ bigSep Finset.univ (tok c)) := by
  unfold mint
  iintro ⟨Ho, Hu, Hst, Hrest⟩
  ihave Hz := (Entails.of_eq (zeros_eq (F := F) c).symm) $$ [Ho Hu]
  · isplitl [Hu] <;> iassumption
  imod (show iprop(bigSep Finset.univ (zer c) ∗ bigSep Finset.univ fun i => roundState ER (Rd X b) (cell c i) 0)
      ⊢ (|={Set.univ}=> bigSep Finset.univ fun i => iprop(∃ κ : ℕ, cellInv ER (Rd X b) κ (cell c i)) : sProp 𝕄) from by
        rw [← bigSep_sep']
        exact (bigSep_mono fun i _ => (Rounds.body_intro ER (Rd X b) (cell c i)).trans inv_alloc).trans (bigSep_fupd _ _)) $$ [Hz Hst] with HI
  · isplitl [Hz] <;> iassumption
  imodintro
  isplitl [HI] <;> iassumption

/-- Raising is dealt to whoever raises. -/
def pairing : Dev nD × Ix ≃ Dev nD × Ix where
  toFun ci := (payee ci.2 ci.1, ci.2)
  invFun ci := (payee ci.2 ci.1, ci.2)
  left_inv ci := Prod.ext (payee_payee ci.2 ci.1) rfl
  right_inv ci := Prod.ext (payee_payee ci.2 ci.1) rfl

theorem dealt : (bigSep Finset.univ fun c : Dev nD => (bigSep Finset.univ (tok c) : sProp 𝕄))
    = bigSep Finset.univ fun c : Dev nD => bigSep Finset.univ fun i => tok (payee i c) i := by
  rw [← bigSep_univ_prod (fun ci : Dev nD × Ix => (tok ci.1 ci.2 : sProp 𝕄)), bigSep_univ_equiv pairing, bigSep_univ_prod]; rfl

/-- What device `c` takes from the protocol into its run. -/
def share (c : Dev nD) : sProp 𝕄 :=
  iprop(∃ K, recs X b K ∗ bigSep Finset.univ (pos c) ∗ bigSep Finset.univ fun i => tok (payee i c) i)

theorem regroup :
    (bigSep Finset.univ fun c : Dev nD => iprop((bigSep Finset.univ fun i => iprop(∃ κ : ℕ, cellInv ER (Rd X b) κ (cell c i)))
          ∗ bigSep Finset.univ (pos c) ∗ (bigSep Finset.univ fun i => reached ER (cell c i) 0) ∗ bigSep Finset.univ (tok c)) : sProp 𝕄)
      ⊢ bigSep Finset.univ (share X b) := by
  rw [bigSep_sep', bigSep_sep', bigSep_sep', ← bigSep_univ_prod (fun ci : Dev nD × Ix => iprop(∃ κ : ℕ, cellInv ER (Rd X b) κ (cell ci.1 ci.2))),
    ← bigSep_univ_prod (fun ci : Dev nD × Ix => (reached ER (cell ci.1 ci.2) 0 : sProp 𝕄)), dealt]
  iintro ⟨HI, Hp, #HR, Ht⟩
  ihave HK := (BI.bigSep_exists_pi Finset.univ (fun (ci : Dev nD × Ix) (κ : ℕ) => (cellInv ER (Rd X b) κ (cell ci.1 ci.2) : sProp 𝕄))) $$ HI
  icases HK with ⟨%K, #HI⟩
  have each : ∀ c ∈ (Finset.univ : Finset (Dev nD)),
      iprop(recs X b K ∗ (bigSep Finset.univ (pos c) ∗ bigSep Finset.univ fun i => tok (payee i c) i)) ⊢ share X b c := fun c _ => by
    unfold share
    iintro ⟨HR, Hp, Ht⟩
    iexists K
    isplitl [HR]; · iexact HR
    isplitl [Hp] <;> iassumption
  iapply ((sep_mono_left (BI.bigSep_of_persistent Finset.univ (recs X b K))).trans
    ((Entails.of_eq (bigSep_sep' _ _ _).symm).trans (bigSep_mono each)))
  isplitr
  · unfold recs; isplitl; · iexact HI
    iexact HR
  · iapply (Entails.of_eq (bigSep_sep' _ _ _).symm)
    isplitl [Hp] <;> iassumption

theorem deal :
    (bigSep Finset.univ fun c => iprop(Pipeline.ownSems0 (Ix := Unit) (Name := ℕ) (U := UU) (Lvl := ℕ) (Val := Elt F) (τ := τ) osem c
        ∗ unscopedSems0 c ∗ mint X b c) : sProp 𝕄) ⊢ |={Set.univ}=> bigSep Finset.univ (share X b) :=
  ((bigSep_mono fun c _ => alloc X b c).trans (bigSep_fupd _ _)).trans (BI.fupd_mono (regroup X b))

/-! ## The credit at launch -/

theorem owedTo_other (d c : Dev nD) (ks : List (Fin 8)) (i : Ix) (hi : ∀ k, i ≠ some (2, k)) : owedTo d ks (cell c i) () = 0 := by
  by_contra h
  obtain ⟨k, hk⟩ := owedTo_pos (Nat.pos_of_ne_zero h)
  exact hi k (congrArg Prod.snd (cell_injective (a₁ := (c, i)) (a₂ := (peer d, some (2, k))) hk))

theorem tally_peer (d c : Dev nD) (i j : Ix) (n : ℕ) :
    (tallyAt (cell (peer d) j) () n : CellTallies nD τ sig Unit) (cell c i) () = if d = peer c ∧ i = j then n else 0 := by
  rw [tallyAt_apply]
  by_cases h : d = peer c ∧ i = j
  · obtain ⟨rfl, rfl⟩ := h
    rw [peer_peer, if_pos ⟨rfl, rfl⟩, if_pos ⟨rfl, rfl⟩]
  · rw [if_neg h, if_neg fun h' => h ?_]
    have e := cell_injective (a₁ := (c, i)) (a₂ := (peer d, j)) h'.1
    exact ⟨by rw [show c = peer d from congrArg Prod.fst e, peer_peer], congrArg Prod.snd e⟩

theorem owedTo_arrival (d c : Dev nD) (k : Fin 8) (ks : List (Fin 8)) :
    owedTo d ks (cell c (some (2, k))) () = if d = peer c then ks.count k * N else 0 := by
  induction ks with
  | nil => rw [List.count_nil, Nat.zero_mul, ite_self]; rfl
  | cons k' ks ih =>
    unfold owedTo
    rw [Pi.add_apply, Finsupp.add_apply, tally_peer, ih, List.count_cons]
    by_cases hd : d = peer c
    · rw [if_pos hd, if_pos hd]
      by_cases hk : k' = k
      · subst hk; rw [if_pos ⟨hd, rfl⟩, if_pos (beq_self_eq_true _), Nat.add_mul, Nat.one_mul]
      · rw [if_neg fun h => hk (by cases h.2; rfl), if_neg fun h => hk (eq_of_beq h), Nat.add_zero, Nat.add_zero]
    · rw [if_neg hd, if_neg hd, if_neg fun h => hd h.1]

theorem O₁_other (d c : Dev nD) (i : Ix) (hi : ∀ k, i ≠ some (2, k)) : O₁ b d (cell c i) () = 0 := by
  unfold O₁
  split
  · exact owedTo_other d c all i hi
  · rfl

theorem O₁_arrival (d c : Dev nD) (k : Fin 8) : O₁ b d (cell c (some (2, k))) () = if d = peer c then (if b then N else 0) else 0 := by
  have once : all.count k = 1 := by revert k; decide
  unfold O₁
  cases b
  · exact (ite_self _).symm
  · exact (owedTo_arrival d c k all).trans (by rw [once, Nat.one_mul]; rfl)

/-- At launch, device `c`'s semaphore `i` is owed what its peer raises it by. -/
theorem owed_cell (d c : Dev nD) (i : Ix) : O₀ b d (cell c i) () = if d = peer c then due b i else 0 := by
  have idle (a : Fin 3 × Fin 8) : ¬ (d = peer c ∧ (some a : Ix) = none) := fun h => Option.some_ne_none _ h.2
  unfold O₀
  rw [Pi.add_apply, Finsupp.add_apply, tally_peer]
  match i with
  | none =>
    rw [O₁_other b d c none fun k => (Option.some_ne_none _).symm, Nat.zero_add]
    by_cases h : d = peer c
    · rw [if_pos ⟨h, rfl⟩, if_pos h]; rfl
    · rw [if_neg fun h' => h h'.1, if_neg h]
  | some (0, k) => rw [O₁_other b d c (some (0, k)) fun k' => by simp, if_neg (idle _)]; exact (ite_self _).symm
  | some (1, k) => rw [O₁_other b d c (some (1, k)) fun k' => by simp, if_neg (idle _)]; exact (ite_self _).symm
  | some (2, k) => rw [O₁_arrival, if_neg (idle _)]; rfl

theorem credit_cell (c : Dev nD) (i : Ix) :
    tallyOn (cell c i) (launchCredit (Pipeline.owing (O₀ b)) 0 (cell c i)) = (tallyAt (cell c i) () (due b i) : CellTallies nD τ sig Unit) := by
  unfold tallyAt; refine congrArg _ (Finsupp.ext fun u => ?_); cases u
  rw [Pipeline.launchCredit_owing, Finsupp.single_eq_same, Finset.sum_congr rfl fun d _ => owed_cell b d c i,
    Finset.sum_ite_eq' Finset.univ (peer c) fun _ => due b i, if_pos (Finset.mem_univ _)]

theorem credits (c : Dev nD) : (Pipeline.launchCred (O₀ b) c : sProp 𝕄) ⊢ bigSep Finset.univ fun i => crd c i (due b i) := by
  unfold Pipeline.launchCred
  refine (bigSep_subset (Finset.subset_univ (Finset.univ.map ⟨csem, csem_injective⟩))).trans ?_
  rw [bigSep_map]
  exact bigSep_mono fun i _ => Entails.of_eq (congrArg cred (credit_cell b c i))

end Swap

end
-- ==== Proof.Launch.lean ====
/-
# The launch

From any memory in which every device holds the same one of the two tables, the program runs on all sixteen devices
to its end: each device's result holds its peer's block where blocks move, its own where they stay; the arguments are
as they were and every semaphore is at zero.
-/
module

public import proofs.«01_k».proof.Proof.Deal
public import proofs.«01_k».proof.Proof.Gen.KernelIdeal.Points
public import Idealize.ShloMosaic.Lib.Pipeline.CollectiveSegs

@[expose] public section

noncomputable section

namespace Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (b : Bool)

/-- The devices' blocks of `x`. -/
def blocks (c : Dev nD) : Blk F := m ((c : Thread nD τ).loc main_arg0)

/-- What a device goes into the kernel's body with. -/
def entry (c : Dev nD) : sProp 𝕄 := iprop((∃ K, start (blocks m) b K c) ∗ (∃ f, aW c f) ∗ (∃ f, sW c f))

/-- The pipeline: one window, the table's; what the body starts from and ends with; what a device owes before and after. -/
def dats (_ : Fin 1) (c : Dev nD) : Dat τ (Elt F) Unit ℕ UU ℕ cfg0 c where
  A w := m ((cfg0.win w).arr.view.loc (c : Thread nD τ))
  after w _ := match w with
    | ⟨0, _⟩ => table b
  Φ t := match t with
    | ⟨0, _⟩ => entry m b c
    | ⟨_ + 1, _⟩ => done (blocks m) b c
  q _ := fullShare
  owed t := match t with
    | ⟨0, _⟩ => O₀ b c
    | ⟨_ + 1, _⟩ => 0

theorem share_full (c : Dev nD) (w : Fin cfg0.W) : (dats m b 0 c).share w = fullShare := by unfold Dat.share; split <;> rfl

theorem over_windows (Φ : Fin cfg0.W → sProp 𝕄) : bigSep Finset.univ Φ = iprop(Φ (0 : Fin 1)) := bigSep_W0 Φ

theorem owns_whole (c : Dev nD) (r : Ref sig .tc) (f : r.ty.Contents (Elt F)) :
    (owns (Ix := Unit) (Name := ℕ) (U := UU) (Lvl := ℕ) (c : Thread nD τ) (Memref.whole r) fullShare f : sProp 𝕄)
      = iprop(∃ g : Buf (Elt F) ((c : Thread nD τ).loc r), ⌜g = f⌝ ∗ ((c : Thread nD τ).loc r ↦{fullShare} g)) := by
  unfold owns; simp only [Memref.view_whole, View.read_whole, View.set_whole]

/-! ## The body, as the pipeline runs it -/

/-- Every device holds the table. -/
abbrev Tables : Prop := ∀ c : Dev nD, m ((c : Thread nD τ).loc main_arg1) = table b

theorem staged (h : Tables m b) (c : Dev nD) (d) : (dats m b 0 c).before (0 : Fin 1) t0_0 d = table b := by
  rw [Dat.before_fetched _ _ _ (fetch0_0 t0_0)]
  refine Eq.trans (b := (win0_0.blk t0_0).view.read (Elt F) (m ((c : Thread nD τ).loc main_arg1))) rfl ?_
  rw [h c]
  funext i
  refine congrArg (table b) (funext fun a => Fin.ext ?_)
  fin_cases a
  show 0 + 1 * (i 0).val = (i 0).val
  omega

/-- The staging buffer of the table, holding `f`. -/
abbrev staging (c : Dev nD) (f : S2.Idx → Elt F .i32) : sProp 𝕄 :=
  iprop(∃ g : Buf (Elt F) ((c : Thread nD τ).loc cc0_stg0_0), ⌜g = f⌝ ∗ ((c : Thread nD τ).loc cc0_stg0_0 ↦{fullShare} g))

def before (c : Dev nD) : sProp 𝕄 :=
  iprop(entry m b c ∗ (dats m b 0 c).owesAt () t0_0.castSucc ∗ (∃ d, staging c ((dats m b 0 c).before (0 : Fin 1) t0_0 d)))
def after (c : Dev nD) : sProp 𝕄 :=
  iprop(done (blocks m) b c ∗ (dats m b 0 c).owesAt () t0_0.succ ∗ staging c (table b))

theorem run_point (h : Tables m b) (c : Dev nD) : before m b c ⊢ run c prog fun _ => after m b c := by
  unfold before after entry Dat.owesAt Pipeline.owesWithin
  iintro ⟨⟨⟨%K, Hs⟩, Ha, Hc⟩, ⟨%W, -, HO⟩, ⟨%d, %g, %hg, Hw⟩⟩
  have e : g = table b := hg.trans (staged m b h c d)
  subst e
  iapply (run_body (blocks m) b K c)
  isplitl [Hs]; · iexact Hs
  isplitl [Ha]; · iexact Ha
  isplitl [Hc]; · iexact Hc
  isplitl [HO]; · unfold owe; iexists W; iexact HO
  isplitl [Hw]; · iexact Hw
  iintro ⟨Hd, HO, Hw⟩
  isplitl [Hd]; · iexact Hd
  isplitl [HO]
  · unfold owe
    icases HO with ⟨%W', HO⟩
    iexists W'
    isplitr; · ipureintro; exact fun _ _ => Or.inl trivial
    iexact HO
  iexists _
  isplitr; · ipureintro; rfl
  iexact Hw

theorem body_obligation (h : Tables m b) (c : Dev nD) : BodyObligation (dats m b 0 c) (defs₀ (F := F)) 𝒱₀ () Set.univ := fun t => by
  rw [fin_N0 t, over_windows, over_windows]
  simp only [owns_whole]
  show before m b c ⊢ run c (cc0_body (F := F) (Memref.whole cc0_stg0_0) (Memref.isWhole_whole _) (Memref.whole main_arg0) (Memref.isWhole_whole _)
    (Memref.whole main_v1) (Memref.isWhole_whole _) (Memref.whole cc0_scratch0) (Memref.isWhole_whole _)
    (Memref.whole cc0_scratch1) (Memref.isWhole_whole _) cc0_scratch2 cc0_scratch3 cc0_scratch4) fun _ => after m b c
  rw [body_eq]
  exact run_point m b h c

/-! ## Into the kernel and out of it -/

/-- What a device takes along to the kernel, and what it is left with. -/
def taken (c : Dev nD) : sProp 𝕄 := iprop(∃ K, start (blocks m) b K c)
def leftover (c : Dev nD) : sProp 𝕄 := iprop(xW c (blocks m c) ∗ oW c (fin (blocks m) b c) ∗ unscopedSems0 c)

theorem take (c : Dev nD) :
    iprop(Pipeline.unscopedRestP Pipeline.Prefetch.none cfg0.spec c (fun r => m ((c : Thread nD τ).loc r)) ∗ levAts L lv
        ∗ Pipeline.launchCred (O₀ b) c ∗ prngReg c (ρ c) ∗ share (blocks m) b c)
      ⊢ |={Set.univ}=> iprop(taken m b c ∗ emp) := by
  rw [Pipeline.unscopedRestP_none, show cfg0.spec = spec0 from rfl, unscopedRest0_eq]
  unfold taken share start
  iintro ⟨⟨Hx, Ho⟩, HL, Hc, -, ⟨%K, HR, Hp, Ht⟩⟩
  ihave Hc := (credits (F := F) b c) $$ Hc
  imodintro
  isplitl
  · iexists K
    isplitl [HR]; · iexact HR
    isplitl [HL]; · iexact HL
    isplitl [Hp]; · iexact Hp
    isplitl [Ht]; · iexact Ht
    isplitl [Hc]; · iexact Hc
    isplitl [Hx]; · unfold xW blocks; iexact Hx
    iexists (m ((c : Thread nD τ).loc main_v1)); unfold oW; iexact Ho
  · iempintro

theorem enter (c : Dev nD) :
    iprop(taken m b c ∗ Pipeline.prefHeld Pipeline.Prefetch.none c (fun _ => fullShare.right) (fun k => k.elim0) ∗ Pipeline.scopedRest cfg0.spec c)
      ⊢ (dats m b 0 c).Φ 0 := by
  rw [show (dats m b 0 c).Φ 0 = entry m b c from rfl, show cfg0.spec = spec0 from rfl, scopedRest0_eq]
  unfold entry taken aW sW
  iintro ⟨Hs, -, Ha, Hc⟩
  isplitl [Hs]; · iexact Hs
  isplitl [Ha]; · iexact Ha
  iexact Hc

theorem leave (c : Dev nD) :
    (dats m b 0 c).Φ (Fin.last cfg0.N) ⊢ iprop(leftover m b c ∗ Pipeline.ownSems0 osem c ∗ Pipeline.scopedRest cfg0.spec c) := by
  rw [show (dats m b 0 c).Φ (Fin.last cfg0.N) = done (blocks m) b c from rfl, show cfg0.spec = spec0 from rfl, scopedRest0_eq]
  unfold done leftover
  rw [zeros_eq]
  unfold aW sW
  iintro ⟨Hx, Ho, Ha, Hs, Hu, Hz⟩
  isplitl [Hx Ho Hu]
  · isplitl [Hx]; · iexact Hx
    isplitl [Ho] <;> iassumption
  isplitl [Hz]; · iexact Hz
  isplitl [Ha]; · iexact Ha
  iexact Hs

/-- The pipeline's own wait, for the table, comes before everything. -/
theorem staging_kind (w : Fin cfg0.W) (s) (i : Ix) : csem i ≠ .dma ((cfg0.win w).sem s) := by
  revert i; fin_cases w; fin_cases s; decide +kernel

theorem waits (c : Dev nD) : (levAts L lv : sProp 𝕄) ⊢ Pipeline.cellsWaits cfgs (dats m b) () 0 c :=
  Pipeline.cellsWaits_intro cfgs (dats m b) () 0 c fun w s t =>
    mayWait_of c _ _ 0 (Nat.le_of_eq (by unfold lv; rw [kind_none (staging_kind w s)]; rfl)) fun g u hg => by
      rcases t with ⟨_ | _, ht⟩
      · exact O₀_rank b g u hg
      · exact absurd hg (Nat.lt_irrefl 0)

/-- What the final memory is read for. -/
def Read (c : Dev nD) (s : MemSt nD τ sig (Elt F)) : Prop :=
  (s.mem ((c : Thread nD τ).loc main_arg0) = blocks m c ∧ s.mem ((c : Thread nD τ).loc main_v1) = fin (blocks m) b c)
    ∧ ∀ sm : SemLoc sig, sm.isScoped .tc = false → s.sem ((c : Thread nD τ), sm) = 0

theorem read_one (c : Dev nD) (r : Ref sig .tc) (f : Buf (Elt F) ((c : Thread nD τ).loc r)) (s' : Phys nD τ sig (Elt F)) :
    iprop(((c : Thread nD τ).loc r ↦{fullShare} f : sProp 𝕄) ∗ SI s') ⊢ iprop(⌜s'.mem.mem ((c : Thread nD τ).loc r) = f⌝ ∗ SI s') := by
  have h := pointsTo_read_all (Ix := Unit) (Name := ℕ) (U := UU) (Lvl := ℕ) ({()} : Finset Unit) (fun _ => (c : Thread nD τ).loc r) (fun _ => f) s'
  rw [bigSep_singleton] at h
  iintro H
  ihave H := h $$ H
  icases H with ⟨%e, H⟩
  isplitr; · ipureintro; exact e () (Finset.mem_singleton_self _)
  iexact H

theorem read_end (c : Dev nD) (s' : Phys nD τ sig (Elt F)) :
    iprop(leftover m b c ∗ emp ∗ SI s') ⊢ |={Set.univ}=> iprop(⌜Read m b c s'.mem⌝ ∗ SI s') := by
  unfold leftover xW oW
  iintro ⟨⟨Hx, Ho, Hu⟩, -, HSI⟩
  ihave H := (read_one c main_arg0 (blocks m c) s') $$ [Hx HSI]
  · isplitl [Hx] <;> iassumption
  icases H with ⟨%ex, HSI⟩
  ihave H := (read_one c main_v1 (fin (blocks m) b c) s') $$ [Ho HSI]
  · isplitl [Ho] <;> iassumption
  icases H with ⟨%eo, HSI⟩
  imod (Pipeline.unscopedSems0_read (X := unscopedSems0 c) (c := c) fupd_intro s') $$ [Hu HSI] with ⟨%es, HSI⟩
  · isplitl [Hu] <;> iassumption
  imodintro
  isplitr; · ipureintro; exact ⟨⟨ex, eo⟩, es⟩
  iexact HSI

/-! ## The run -/

/-- What every run ends in. -/
def Outcome (r : PUnit × MemSt nD τ sig (Elt F)) : Prop :=
  (∀ c : Dev nD, (r.2.mem ((c : Thread nD τ).loc main_arg0) = m ((c : Thread nD τ).loc main_arg0)
      ∧ r.2.mem ((c : Thread nD τ).loc main_arg1) = m ((c : Thread nD τ).loc main_arg1))
      ∧ r.2.mem ((c : Thread nD τ).loc main_v1) = fin (blocks m) b c)
    ∧ r.2.sem = fun _ => 0

set_option maxRecDepth 8000 in
theorem run_all (h : Tables m b) :
    θ_run defs (onTc (τ := τ) (Cert.KernelIdeal.main (F := F))) ⟨m, fun _ => 0, ρ⟩ (Outcome m b) :=
  Pipeline.θ_run_region_owing_glob_pf (fun p => (cfgs p).toPCfg) (fun p => (cfgs p).toPCfg_adm) (dats m b) () cellOf_inj (0 : Fin 1)
    winFacts0.to₀ ownSemFacts (Pipeline.PreFacts.none _) EP defs₀ 𝒱₀ m ρ Cert.KernelIdeal.main
    (hmain := fun _ => rfl)
    (hbody := body_obligation m b h) (hne := block_pos0) (harr := arr_whole0) (hstage := stage_whole0) (hshare := share_full m b)
    (hdistinct := winFacts0.arr_inj)
    (O₀ := O₀ b) (howed₀ := fun _ => rfl) (howedN := fun _ => rfl)
    (L := L) (lv := lv) (hL := L_ne) (hwaits := waits m b)
    (G := mint (blocks m) b) (G' := share (blocks m) b) (u₀ := u₀)
    (hu₀ := by
      unfold u₀
      iintro Hu
      ihave H := (ownU_pair _ _) $$ Hu
      icases H with ⟨HP, HX⟩
      imod (fund (blocks m) b) $$ HX with HG
      imodintro
      isplitl [HP] <;> iassumption)
    (hglob := deal (blocks m) b)
    (hA := fun _ _ => rfl) (hpf := fun _ k => k.elim0)
    (X := taken m b) (Y := leftover m b) (Z := fun _ => iprop(emp))
    (hX := take m ρ b) (hin := enter m b) (hout := leave m b)
    (QY := Read m b) (hY := read_end m b)
    (hQ := fun _ hc hs => ⟨fun c => ⟨⟨(hc c).2.2.1.1, ((hc c).1 (0 : Fin 1)).trans ((dats m b 0 c).arrAt_in (0 : Fin 1) rfl _)⟩, (hc c).2.2.1.2⟩,
      sem_eq_zero hs fun c => (hc c).2.2.2⟩)

end Swap

end
-- ==== Proof.Printed.lean ====
/-
# The kernel as printed, at the machine's floats

The printed program and its ideal reading are the same text, so the run proved of the one, at any interpretation of
floats, is a run of the other.
-/
module

public import proofs.«01_k».proof.Proof.Launch
public import proofs.«01_k».proof.Proof.Gen.Kernel
public import proofs.«01_k».proof.Proof.Gen.Kernel.Skeleton

@[expose] public section

noncomputable section

namespace Swap

open Idealize.ShloMosaic
open Idealize.ShloMosaic.TcCoe
open Idealize.SL.Sem

variable {F : FTy → Type} [FloatOps F]

set_option maxRecDepth 65536 in
set_option maxHeartbeats 4000000 in
theorem printed_body : Cert.Kernel.cc0_body (F := F) (Memref.whole Cert.Kernel.cc0_stg0_0) (Memref.isWhole_whole _)
    (Memref.whole Cert.Kernel.main_arg0) (Memref.isWhole_whole _) (Memref.whole Cert.Kernel.main_v1) (Memref.isWhole_whole _)
    (Memref.whole Cert.Kernel.cc0_scratch0) (Memref.isWhole_whole _) (Memref.whole Cert.Kernel.cc0_scratch1) (Memref.isWhole_whole _)
    Cert.Kernel.cc0_scratch2 Cert.Kernel.cc0_scratch3 Cert.Kernel.cc0_scratch4 = prog := by
  rw [Cert.Kernel.Gen.cc0_body_eq_skeleton]
  rfl

theorem printed_defs₀ : Cert.Kernel.defs₀ (F := F) = Cert.KernelIdeal.defs₀ := by
  refine congrArg Defs.onTc (funext fun l => funext fun a => ?_)
  match l, a with
  | 0, (t, s) => exact printed_body.trans body_eq.symm

theorem printed_defs : Cert.Kernel.defs (F := F) = Cert.KernelIdeal.defs :=
  congrArg (Pipeline.defs Cert.KernelIdeal.pcfgs) printed_defs₀

theorem printed_main : Cert.Kernel.main (F := F) = Cert.KernelIdeal.main := rfl

theorem run_printed (m : (ℓ : Loc Cert.Kernel.nD Cert.Kernel.τ Cert.Kernel.sig) → Buf (Elt F) ℓ) (ρ : Dev Cert.Kernel.nD → PrngReg) (b : Bool)
    (h : ∀ c : Dev Cert.Kernel.nD, m ((c : Thread Cert.Kernel.nD Cert.Kernel.τ).loc Cert.Kernel.main_arg1) = table b) :
    θ_run (Cert.Kernel.defs (F := F)) (onTc (τ := Cert.Kernel.τ) (Cert.Kernel.main (F := F))) ⟨m, fun _ => 0, ρ⟩ (Outcome m b) :=
  by rw [printed_defs, printed_main]; exact run_all m ρ b h

end Swap

end
-- ==== Proof.Reference.lean ====
/-
# The reference's run

The reference is a straight line of array operations on one device: it sorts the table with its positions, takes the
positions as indices, and gathers the blocks of `x` by them.
-/
module

public import proofs.«01_k».proof.Proof.Words
public import proofs.«01_k».proof.Proof.Gen.ReferenceIdeal
public import Idealize.ShloMosaic.Lib.Claim
public import Idealize.ShloMosaic.Lib.Layout

@[expose] public section

noncomputable section

namespace Whole

open Idealize.ShloMosaic Idealize.SL.Sem
open Cert.ReferenceIdeal
open Cert.ReferenceIdeal.Facts₀

variable {F : FTy → Type} [FloatOps F]

/-- The whole array. -/
abbrev Arr (F : FTy → Type) : Type := S2x2048x1024.Idx → Elt F .bf16
/-- A table of two words. -/
abbrev Tab : Type := IVec S2 32

/-- The positions in the order of the table's words. -/
def order (p : Tab) : Tab := (Host.sort2 S2 0 comparator_i32_i32_d0 p (iotaInDim S2 32 0)).2

/-- The same as indices: one below zero counts from the end. -/
def index (p : Tab) : Tab :=
  select (cmpi .slt (order p) (broadcastInDim S2 ![] bcast_S_S2 (constantI S_ 32 0#32)))
    (addi (order p) (broadcastInDim S2 ![] bcast_S_S2 (constantI S_ 32 2#32))) (order p)

/-- What the reference computes. -/
def value (x : Arr F) (p : Tab) : Arr F :=
  Host.gather gather_S2x2048x1024_S2x1_S2x2048x1024_12_0_n_n_0_1_120481024 x
    (broadcastInDim S2x1 ![0] bcast_S2_S2x1_0 (index p))

variable (m : (ℓ : Loc nD τ sig) → Buf (Elt F) ℓ) (ρ : Dev nD → PrngReg)

theorem run : θ_run (defs (F := F)) (onTc (τ := τ) (main (F := F))) ⟨m, fun _ => 0, ρ⟩ fun r => ∀ c : Dev nD,
    r.2.mem ((c.tc : Thread nD τ).loc main_v7) = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine θ_run_mono (StableHlo.run_hlo _ _ (by unfold main fn_argsort.body; simp only [bind_assoc, pure_bind]; hlo_seq) (by decide) (by decide) (by simp)
      (by intro _ h; (repeat (cases h with | head => rfl | tail _ h => ?_)); exact nomatch h) _ _) ?_
  intro r hr c
  refine ⟨(hr c _).trans ?_, (hr c _).trans ?_, (hr c _).trans ?_⟩
  · after_results
    rfl
  · after_results
  · after_results

/-- The reference stops with its arguments untouched; it has no semaphore. -/
theorem frame : θ_run (defs (F := F)) (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  θ_run_mono (run m ρ) fun r h => ⟨fun c => (h c).2, sem_eq_zero_of_no_sems (by decide) r.2⟩

/-! ## Its value at the two tables -/

/-- The array with its blocks exchanged, or as it is. -/
def dealt (b : Bool) (x : Arr F) : Arr F := fun j => x (j.along 0 (if b then Fin.rev (j 0) else j 0))

/-- The place of a number below two. -/
abbrev place (k : Fin 2) : S2.Idx := fun | 0 => k

/-- The table's words, with no word of floats. -/
abbrev words (b : Bool) : Tab := fun i => if b then 1#32 - BitVec.ofNat 32 (i 0).val else BitVec.ofNat 32 (i 0).val

set_option maxRecDepth 8000 in
theorem index_words (b : Bool) : index (words b) = words b := by
  have h : ∀ (b : Bool) (k : Fin 2), index (words b) (place k) = words b (place k) := by decide +kernel
  funext i
  rw [show i = place (i 0) from funext fun a => by fin_cases a; rfl]
  exact h b (i 0)

/-- Which block the gather reads for row `j`: the word there, kept within the two. -/
theorem start_eq (j : S2x2048x1024.Idx) (p : Tab) :
    GatherDims.start gather_S2x2048x1024_S2x1_S2x2048x1024_12_0_n_n_0_1_120481024 j (broadcastInDim S2x1 ![0] bcast_S2_S2x1_0 p) 0
      = min (p (place (j 0))).toInt.toNat 1 := by
  have h : GatherDims.start gather_S2x2048x1024_S2x1_S2x2048x1024_12_0_n_n_0_1_120481024 j (broadcastInDim S2x1 ![0] bcast_S2_S2x1_0 p) 0
      = min (broadcastInDim S2x1 ![0] bcast_S2_S2x1_0 p (GatherDims.siIdx gather_S2x2048x1024_S2x1_S2x2048x1024_12_0_n_n_0_1_120481024 j ⟨0, by decide⟩)).toInt.toNat 1 := rfl
  rw [h]
  refine congrArg (fun w : BitVec 32 => min w.toInt.toNat 1) (congrArg p (funext fun a => ?_))
  fin_cases a
  rfl

theorem clamp_words (b : Bool) (k : Fin 2) : min (words b (place k)).toInt.toNat 1 = (if b then Fin.rev k else k).val := by
  revert b k; decide +kernel

theorem value_table (b : Bool) (x : Arr F) : value x (Swap.table (F := F) b) = dealt b x := by
  refine funext fun j : S2x2048x1024.Idx => ?_
  unfold value dealt Host.gather
  rw [show index (Swap.table (F := F) b) = words b from index_words b]
  refine congrArg x (funext fun a => Fin.ext ?_)
  fin_cases a
  · exact ((start_eq j (words b)).trans (clamp_words b (j 0)))
  · exact Nat.zero_add _
  · exact Nat.zero_add _

end Whole

end
-- ==== Proof.Tables.lean ====
/-
# What the two predicates say of a table

Each compares the table with a table it computes, word by word, so where all its answers are ones the two are equal.
-/
module

public import proofs.«01_k».proof.Proof.Words
public import proofs.«01_k».proof.Pre_pi_swaps_Kernel
public import proofs.«01_k».proof.Pre_pi_stays_Kernel

@[expose] public section

noncomputable section

namespace Swap

open Idealize.ShloMosaic

variable {F : FTy → Type} [FloatOps F]

/-- Two words whose comparison answers one are equal. -/
theorem eq_of_one {a b : BitVec 32} (h : IntOp.cmpi .eq a b = 1#1) : a = b := by
  have hb : ∀ q : Bool, BitVec.ofBool q = 1#1 → q = true := by decide
  exact eq_of_beq (hb _ h)

theorem table_of_swaps [Cert.Pre_pi_swaps_Kernel.Facts] {x : FVec F Cert.Pre_pi_swaps_Kernel.S1x2048x1024 .bf16} {p : IVec Cert.Pre_pi_swaps_Kernel.S2 32}
    (h : Cert.Pre_pi_swaps_Kernel.fn (F := F) x p = fun _ => 1#1) : p = table (F := F) true :=
  funext fun i => eq_of_one (congrFun h i)

theorem table_of_stays [Cert.Pre_pi_stays_Kernel.Facts] {x : FVec F Cert.Pre_pi_stays_Kernel.S1x2048x1024 .bf16} {p : IVec Cert.Pre_pi_stays_Kernel.S2 32}
    (h : Cert.Pre_pi_stays_Kernel.fn (F := F) x p = fun _ => 1#1) : p = table (F := F) false :=
  funext fun i => eq_of_one (congrFun h i)

end Swap

end
-- ==== Proof.Value.lean ====
/-
# The kernel's blocks are the blocks of the reference's array

The whole array is cut in two along its first axis, by the mesh's second. A device's peer differs from it in that
coordinate alone, so the peer's block is the device's block of the array with its blocks exchanged.
-/
module

public import proofs.«01_k».proof.Proof.Body
public import proofs.«01_k».proof.Proof.Reference

@[expose] public section

noncomputable section

namespace Swap

open Idealize.ShloMosaic

variable {F : FTy → Type} [FloatOps F]

/-- A device's block of the whole array. -/
abbrev cut (c : Dev Cert.KernelIdeal.nD) (x : Whole.Arr F) : Blk F :=
  Layout.blockN ⟨3, ![1, 2048, 1024]⟩ ⟨3, ![2, 2048, 1024]⟩ (Layout.meshBlock [2, 2, 4] ![[1], [], []] c) x

/-- Which block a device holds along the first axis. -/
abbrev half (c : Dev Cert.KernelIdeal.nD) : Fin 2 := (Layout.meshBlock (r := 3) [2, 2, 4] ![[1], [], []] c) 0

theorem side (b : Bool) (c : Dev Cert.KernelIdeal.nD) :
    (if b then Fin.rev (half c) else half c) = half (if b then peer c else c) := by
  revert b c; decide +kernel

theorem tiles : Layout.TilesN ⟨3, ![1, 2048, 1024]⟩ ⟨3, ![2, 2048, 1024]⟩ fun a => Layout.cutSize [2, 2, 4] ((![[1], [], []] : Fin 3 → List Nat) a) := by
  decide

/-- A block has one row of the first axis, so its place there is its block's number. -/
theorem place_eq (c : Dev Cert.KernelIdeal.nD) (i : Cert.KernelIdeal.S1x2048x1024.Idx) :
    (tiles.idx (Layout.meshBlock [2, 2, 4] ![[1], [], []] c) i 0 : Fin 2) = half c := by
  refine Fin.ext ?_
  have hi : (i 0).val = 0 := Nat.lt_one_iff.mp (i 0).isLt
  rw [Layout.TilesN.idx_val]
  show _ * 1 + (i 0).val = _
  rw [hi]
  exact Nat.mul_one _

theorem cut_dealt (b : Bool) (x : Whole.Arr F) (c : Dev Cert.KernelIdeal.nD) :
    cut c (Whole.dealt b x) = fin (fun d => cut d x) b c := by
  refine funext fun i : Cert.KernelIdeal.S1x2048x1024.Idx => congrArg x (funext fun a => ?_)
  fin_cases a
  · refine Eq.trans ?_ (place_eq (if b then peer c else c) i).symm
    refine Eq.trans ?_ (side b c)
    exact congrArg (fun k : Fin 2 => if b then Fin.rev k else k) (place_eq c i)
  · exact Fin.ext rfl
  · exact Fin.ext rfl

end Swap

end
-- ==== Proof.lean ====
/-
# The certificate

Every claim follows from one run of each program. The kernel's run (`Swap.run_all`, and `Swap.run_printed` for the
kernel as printed) says that every device ends holding its peer's block, or its own, with its arguments untouched and its
semaphores at zero; the reference's (`Whole.run`) says what its result is; `Swap.cut_dealt` says that the blocks are the
result's.
-/
module

public import proofs.«01_k».proof.Defs
public import proofs.«01_k».proof.Proof.Launch
public import proofs.«01_k».proof.Proof.Printed
public import proofs.«01_k».proof.Proof.Reference
public import proofs.«01_k».proof.Proof.Tables
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.Pre_pi_swaps_Kernel
public import proofs.«01_k».proof.Proof.Gen.Pre_pi_stays_Kernel
public import proofs.«01_k».proof.Proof.Gen.Pre_pi_swaps_ReferenceIdeal
public import proofs.«01_k».proof.Proof.Gen.Pre_pi_stays_ReferenceIdeal

@[expose] public section

noncomputable section

namespace Cert.Proof

open Idealize.ShloMosaic Idealize.SL.Sem

/-! ## The kernel's frames -/

theorem frame_swaps : Cert.quiescent_Kernel := fun m g h =>
  θ_run_mono (Swap.run_printed m g true fun c => Swap.table_of_swaps (h c)) fun _ hr => ⟨fun c => (hr.1 c).1, hr.2⟩

theorem frame_stays : Cert.quiescent_Kernel_pre_pi_stays_Kernel := fun m g h =>
  θ_run_mono (Swap.run_printed m g false fun c => Swap.table_of_stays (h c)) fun _ hr => ⟨fun c => (hr.1 c).1, hr.2⟩

theorem frame_ideal_swaps : Cert.quiescent_KernelIdeal := fun m g h =>
  θ_run_mono (Swap.run_all m g true fun c => Swap.table_of_swaps (h c)) fun _ hr => ⟨fun c => (hr.1 c).1, hr.2⟩

theorem frame_ideal_stays : Cert.quiescent_KernelIdeal_pre_pi_stays_Kernel := fun m g h =>
  θ_run_mono (Swap.run_all m g false fun c => Swap.table_of_stays (h c)) fun _ hr => ⟨fun c => (hr.1 c).1, hr.2⟩

/-! ## The value -/

/-- With the same table on every device, the kernel's blocks are those of the reference's result. -/
theorem value (b : Bool)
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (ht : Swap.Tables m b)
    (hx : ∀ c : Dev Cert.KernelIdeal.nD,
      m ((c.tc : Thread Cert.KernelIdeal.nD Cert.KernelIdeal.τ).loc Cert.KernelIdeal.main_arg0)
          = Swap.cut c (m' (((0 : Dev Cert.ReferenceIdeal.nD).tc : Thread Cert.ReferenceIdeal.nD Cert.ReferenceIdeal.τ).loc Cert.ReferenceIdeal.main_arg0))
        ∧ m ((c.tc : Thread Cert.KernelIdeal.nD Cert.KernelIdeal.τ).loc Cert.KernelIdeal.main_arg1)
          = m' (((0 : Dev Cert.ReferenceIdeal.nD).tc : Thread Cert.ReferenceIdeal.nD Cert.ReferenceIdeal.τ).loc Cert.ReferenceIdeal.main_arg1)) :
    ∃ v : Buf (Elt Ideal) (((0 : Dev Cert.ReferenceIdeal.nD).tc : Thread Cert.ReferenceIdeal.nD Cert.ReferenceIdeal.τ).loc Cert.ReferenceIdeal.main_v7),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Swap.cut c v
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have hp : m' (((0 : Dev Cert.ReferenceIdeal.nD).tc : Thread Cert.ReferenceIdeal.nD Cert.ReferenceIdeal.τ).loc Cert.ReferenceIdeal.main_arg1)
      = Swap.table (F := Ideal) b := ((hx 0).2.symm).trans (ht 0)
  refine ⟨Whole.dealt b (m' (((0 : Dev Cert.ReferenceIdeal.nD).tc : Thread Cert.ReferenceIdeal.nD Cert.ReferenceIdeal.τ).loc Cert.ReferenceIdeal.main_arg0)),
    θ_run_mono (Swap.run_all m g b ht) fun r hr c => ⟨(hr.1 c).2.trans ?_, (hr.1 c).1⟩,
    θ_run_mono (Whole.run m' g') fun r hr => ⟨(hr 0).1.trans ?_, (hr 0).2⟩⟩
  · rw [show Swap.blocks m = fun d => Swap.cut d (m' (((0 : Dev Cert.ReferenceIdeal.nD).tc : Thread Cert.ReferenceIdeal.nD Cert.ReferenceIdeal.τ).loc Cert.ReferenceIdeal.main_arg0))
      from funext fun d => (hx d).1]
    exact (Swap.cut_dealt b _ c).symm
  · rw [hp]
    exact Whole.value_table b _

theorem value_swaps : Cert.algebraic_KernelIdeal_ReferenceIdeal := fun m g m' g' h hx =>
  value true m g m' g' (fun c => Swap.table_of_swaps (h c)) hx

theorem value_stays : Cert.algebraic_KernelIdeal_ReferenceIdeal_pre_pi_stays_Kernel := fun m g m' g' h hx =>
  value false m g m' g' (fun c => Swap.table_of_stays (h c)) hx

/-! ## Together -/

theorem claim : Cert.Claim :=
  ⟨Cert.Kernel.Gen.facts, Cert.KernelIdeal.Gen.facts, Cert.ReferenceIdeal.Gen.facts, Cert.Pre_pi_swaps_Kernel.Gen.facts,
    Cert.Pre_pi_stays_Kernel.Gen.facts, Cert.Pre_pi_swaps_ReferenceIdeal.Gen.facts, Cert.Pre_pi_stays_ReferenceIdeal.Gen.facts,
    frame_swaps, frame_stays, frame_ideal_swaps, frame_ideal_stays,
    fun m g _ => Whole.frame m g, fun m g _ => Whole.frame m g, fun m g _ => Whole.frame m g, trivial,
    value_swaps, value_stays⟩

end Cert.Proof

end
